-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 2048]⟩ ⟨2, ![1024, 65536]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x2048 : Shape := ⟨2, ![1024, 2048]⟩
abbrev S2048x1024 : Shape := ⟨2, ![2048, 1024]⟩
abbrev S2x3 : Shape := ⟨2, ![2, 3]⟩
abbrev S2x3x3 : Shape := ⟨3, ![2, 3, 3]⟩
abbrev S_ : Shape := ⟨0, ![]⟩
abbrev S2048x512 : Shape := ⟨2, ![2048, 512]⟩
abbrev S1024x512 : Shape := ⟨2, ![1024, 512]⟩
abbrev S1x1 : Shape := ⟨2, ![1, 1]⟩
abbrev S1x1x1 : Shape := ⟨3, ![1, 1, 1]⟩
abbrev S256x512 : Shape := ⟨2, ![256, 512]⟩
abbrev S64x512 : Shape := ⟨2, ![64, 512]⟩
abbrev S32x512 : Shape := ⟨2, ![32, 512]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .bf16⟩
  | .hbm, ⟨1, _⟩ => ⟨S1024x2048, .bf16⟩
  | .hbm, ⟨2, _⟩ => ⟨S2048x1024, .bf16⟩
  | .hbm, ⟨3, _⟩ => ⟨S1024x1024, .f32⟩
  | .local _ .vmem, ⟨0, _⟩ => ⟨S1024x1024, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let v26 : BitVec 32 := Scalar.xori v2 c1_i32_13
  let c1_i32_15 : BitVec 32 := 1#32
  let v27 : BitVec 32 := Scalar.muli v26 c1_i32_15
  let v28 : BitVec 32 := Scalar.addi c0_i32_16 v27
  v28.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_17 : BitVec 32 := 2#32
  let v29 : BitVec 32 := Scalar.xori v2 c2_i32_17
  let c1_i32_19 : BitVec 32 := 1#32
  let v30 : BitVec 32 := Scalar.muli v29 c1_i32_19
  let v31 : BitVec 32 := Scalar.addi c0_i32_20 v30
  v31.toNat
def k0_dev3 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_21 : BitVec 32 := 3#32
  let v32 : BitVec 32 := Scalar.xori v2 c3_i32_21
  let c1_i32_23 : BitVec 32 := 1#32
  let v33 : BitVec 32 := Scalar.muli v32 c1_i32_23
  let v34 : BitVec 32 := Scalar.addi c0_i32_24 v33
  v34.toNat
def k0_dev4 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v35 : BitVec 32 := Scalar.xori v2 c8_i32
  let c1_i32_26 : BitVec 32 := 1#32
  let v36 : BitVec 32 := Scalar.muli v35 c1_i32_26
  let v37 : BitVec 32 := Scalar.addi c0_i32_27 v36
  v37.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v38 : BitVec 32 := Scalar.xori v2 c16_i32
  let c1_i32_29 : BitVec 32 := 1#32
  let v39 : BitVec 32 := Scalar.muli v38 c1_i32_29
  let v40 : BitVec 32 := Scalar.addi c0_i32_30 v39
  v40.toNat
def k0_dev6 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v41 : BitVec 32 := Scalar.xori v2 c24_i32
  let c1_i32_32 : BitVec 32 := 1#32
  let v42 : BitVec 32 := Scalar.muli v41 c1_i32_32
  let v43 : BitVec 32 := Scalar.addi c0_i32_33 v42
  v43.toNat
def k0_dev7 (d0 : Dev nD) : Nat :=
  let c0_i32_36 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v44 : BitVec 32 := Scalar.xori v2 c4_i32
  let c1_i32_35 : BitVec 32 := 1#32
  let v45 : BitVec 32 := Scalar.muli v44 c1_i32_35
  let v46 : BitVec 32 := Scalar.addi c0_i32_36 v45
  v46.toNat
def k0_off1 (d0 : Dev nD) (c1_i32_46 : BitVec 32) : Fin 2 → Nat :=
  let c0_i32_48 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let v63 : BitVec 32 := Scalar.xori v3 c1_i32_46
  let c256_i32_47 : BitVec 32 := 256#32
  let v64 : BitVec 32 := Scalar.muli v63 c256_i32_47
  let v65 : BitVec 32 := Scalar.addi c0_i32_48 v64
  let c0_i32_67 : BitVec 32 := 0#32
  ![v65.toNat, 0]
def k0_dev8 (d0 : Dev nD) : Nat :=
  let c0_i32_64 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_49 : BitVec 32 := 1#32
  let v66 : BitVec 32 := Scalar.xori v2 c1_i32_49
  let c1_i32_63 : BitVec 32 := 1#32
  let v75 : BitVec 32 := Scalar.muli v66 c1_i32_63
  let v76 : BitVec 32 := Scalar.addi c0_i32_64 v75
  v76.toNat
def k0_dev9 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_53 : BitVec 32 := 2#32
  let v70 : BitVec 32 := Scalar.xori v2 c2_i32_53
  let c1_i32_73 : BitVec 32 := 1#32
  let v83 : BitVec 32 := Scalar.muli v70 c1_i32_73
  let v84 : BitVec 32 := Scalar.addi c0_i32_74 v83
  v84.toNat
def k0_dev10 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_57 : BitVec 32 := 3#32
  let v74 : BitVec 32 := Scalar.xori v2 c3_i32_57
  let c1_i32_83 : BitVec 32 := 1#32
  let v91 : BitVec 32 := Scalar.muli v74 c1_i32_83
  let v92 : BitVec 32 := Scalar.addi c0_i32_84 v91
  v92.toNat
def k0_off2 (d0 : Dev nD) (c1_i32_89 : BitVec 32) : Fin 2 → Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let v105 : BitVec 32 := Scalar.xori v9 c1_i32_89
  let c256_i32_90 : BitVec 32 := 256#32
  let v106 : BitVec 32 := Scalar.muli v105 c256_i32_90
  let v107 : BitVec 32 := Scalar.addi c0_i32_91 v106
  let c512_i32_110 : BitVec 32 := 512#32
  ![v107.toNat, 512]
def k0_dev11 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_92 : BitVec 32 := 8#32
  let v108 : BitVec 32 := Scalar.xori v2 c8_i32_92
  let c1_i32_106 : BitVec 32 := 1#32
  let v117 : BitVec 32 := Scalar.muli v108 c1_i32_106
  let v118 : BitVec 32 := Scalar.addi c0_i32_107 v117
  v118.toNat
def k0_dev12 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_96 : BitVec 32 := 16#32
  let v112 : BitVec 32 := Scalar.xori v2 c16_i32_96
  let c1_i32_116 : BitVec 32 := 1#32
  let v125 : BitVec 32 := Scalar.muli v112 c1_i32_116
  let v126 : BitVec 32 := Scalar.addi c0_i32_117 v125
  v126.toNat
def k0_dev13 (d0 : Dev nD) : Nat :=
  let c0_i32_127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_100 : BitVec 32 := 24#32
  let v116 : BitVec 32 := Scalar.xori v2 c24_i32_100
  let c1_i32_126 : BitVec 32 := 1#32
  let v133 : BitVec 32 := Scalar.muli v116 c1_i32_126
  let v134 : BitVec 32 := Scalar.addi c0_i32_127 v133
  v134.toNat
def k0_off3 (d0 : Dev nD) : Fin 2 → Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32_131 : BitVec 32 := 256#32
  let v141 : BitVec 32 := Scalar.muli v3 c256_i32_131
  let v142 : BitVec 32 := Scalar.addi c0_i32_132 v141
  let v166 : Index := Scalar.indexCast v142
  let c0_168 : Index := 0#32
  ![v166.toNat, 0]
def k0_off4 (d0 : Dev nD) (c1_i32_197 : BitVec 32) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32 : BitVec 32 := 256#32
  let v13 : BitVec 32 := Scalar.muli v3 c256_i32
  let v14 : BitVec 32 := Scalar.addi c0_i32 v13
  let c3_i32_0 : BitVec 32 := 3#32
  let v4 : BitVec 32 := Scalar.shrsi v2 c3_i32_0
  let c3_i32_1 : BitVec 32 := 3#32
  let v5 : BitVec 32 := Scalar.andi v4 c3_i32_1
  let v185 : BitVec 32 := Scalar.xori v5 c1_i32_197
  let c64_i32_198 : BitVec 32 := 64#32
  let v186 : BitVec 32 := Scalar.muli v185 c64_i32_198
  let v187 : BitVec 32 := Scalar.addi v14 v186
  let c0_i32_214 : BitVec 32 := 0#32
  ![v187.toNat, 0]
def k0_dev14 (d0 : Dev nD) : Nat :=
  let c0_i32_212 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_199 : BitVec 32 := 8#32
  let v188 : BitVec 32 := Scalar.xori v2 c8_i32_199
  let c1_i32_211 : BitVec 32 := 1#32
  let v197 : BitVec 32 := Scalar.muli v188 c1_i32_211
  let v198 : BitVec 32 := Scalar.addi c0_i32_212 v197
  v198.toNat
def k0_dev15 (d0 : Dev nD) : Nat :=
  let c0_i32_221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_202 : BitVec 32 := 16#32
  let v192 : BitVec 32 := Scalar.xori v2 c16_i32_202
  let c1_i32_220 : BitVec 32 := 1#32
  let v205 : BitVec 32 := Scalar.muli v192 c1_i32_220
  let v206 : BitVec 32 := Scalar.addi c0_i32_221 v205
  v206.toNat
def k0_dev16 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_205 : BitVec 32 := 24#32
  let v196 : BitVec 32 := Scalar.xori v2 c24_i32_205
  let c1_i32_229 : BitVec 32 := 1#32
  let v213 : BitVec 32 := Scalar.muli v196 c1_i32_229
  let v214 : BitVec 32 := Scalar.addi c0_i32_230 v213
  v214.toNat
def k0_off5 (d0 : Dev nD) : Fin 2 → Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_233 : BitVec 32 := 256#32
  let v221 : BitVec 32 := Scalar.muli v9 c256_i32_233
  let v222 : BitVec 32 := Scalar.addi c0_i32_234 v221
  let v246 : Index := Scalar.indexCast v222
  let c512_271 : Index := 512#32
  ![v246.toNat, 512]
def k0_off6 (d0 : Dev nD) (c1_i32_300 : BitVec 32) : Fin 2 → Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_9 : BitVec 32 := 256#32
  let v19 : BitVec 32 := Scalar.muli v9 c256_i32_9
  let v20 : BitVec 32 := Scalar.addi c0_i32_10 v19
  let c3_i32_5 : BitVec 32 := 3#32
  let v10 : BitVec 32 := Scalar.andi v2 c3_i32_5
  let v265 : BitVec 32 := Scalar.xori v10 c1_i32_300
  let c64_i32_301 : BitVec 32 := 64#32
  let v266 : BitVec 32 := Scalar.muli v265 c64_i32_301
  let v267 : BitVec 32 := Scalar.addi v20 v266
  let c512_i32_318 : BitVec 32 := 512#32
  ![v267.toNat, 512]
def k0_dev17 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_302 : BitVec 32 := 1#32
  let v268 : BitVec 32 := Scalar.xori v2 c1_i32_302
  let c1_i32_314 : BitVec 32 := 1#32
  let v277 : BitVec 32 := Scalar.muli v268 c1_i32_314
  let v278 : BitVec 32 := Scalar.addi c0_i32_315 v277
  v278.toNat
def k0_dev18 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_305 : BitVec 32 := 2#32
  let v272 : BitVec 32 := Scalar.xori v2 c2_i32_305
  let c1_i32_324 : BitVec 32 := 1#32
  let v285 : BitVec 32 := Scalar.muli v272 c1_i32_324
  let v286 : BitVec 32 := Scalar.addi c0_i32_325 v285
  v286.toNat
def k0_dev19 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_308 : BitVec 32 := 3#32
  let v276 : BitVec 32 := Scalar.xori v2 c3_i32_308
  let c1_i32_334 : BitVec 32 := 1#32
  let v293 : BitVec 32 := Scalar.muli v276 c1_i32_334
  let v294 : BitVec 32 := Scalar.addi c0_i32_335 v293
  v294.toNat
def k0_off7 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32 : BitVec 32 := 256#32
  let v13 : BitVec 32 := Scalar.muli v3 c256_i32
  let v14 : BitVec 32 := Scalar.addi c0_i32 v13
  let c3_i32_0 : BitVec 32 := 3#32
  let v4 : BitVec 32 := Scalar.shrsi v2 c3_i32_0
  let c3_i32_1 : BitVec 32 := 3#32
  let v5 : BitVec 32 := Scalar.andi v4 c3_i32_1
  let c64_i32_339 : BitVec 32 := 64#32
  let v301 : BitVec 32 := Scalar.muli v5 c64_i32_339
  let v302 : BitVec 32 := Scalar.addi v14 v301
  let v326 : Index := Scalar.indexCast v302
  let c0_373 : Index := 0#32
  ![v326.toNat, 0]
def k0_off8 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32 : BitVec 32 := 256#32
  let v13 : BitVec 32 := Scalar.muli v3 c256_i32
  let v14 : BitVec 32 := Scalar.addi c0_i32 v13
  let c3_i32_0 : BitVec 32 := 3#32
  let v4 : BitVec 32 := Scalar.shrsi v2 c3_i32_0
  let c3_i32_1 : BitVec 32 := 3#32
  let v5 : BitVec 32 := Scalar.andi v4 c3_i32_1
  let c64_i32 : BitVec 32 := 64#32
  let v15 : BitVec 32 := Scalar.muli v5 c64_i32
  let v16 : BitVec 32 := Scalar.addi v14 v15
  let c2_i32 : BitVec 32 := 2#32
  let v6 : BitVec 32 := Scalar.shrsi v2 c2_i32
  let c1_i32_2 : BitVec 32 := 1#32
  let v7 : BitVec 32 := Scalar.andi v6 c1_i32_2
  let c1_i32_402 : BitVec 32 := 1#32
  let v345 : BitVec 32 := Scalar.xori v7 c1_i32_402
  let c32_i32_403 : BitVec 32 := 32#32
  let v346 : BitVec 32 := Scalar.muli v345 c32_i32_403
  let v347 : BitVec 32 := Scalar.addi v16 v346
  let c0_i32_413 : BitVec 32 := 0#32
  ![v347.toNat, 0]
def k0_dev20 (d0 : Dev nD) : Nat :=
  let c0_i32_411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_404 : BitVec 32 := 4#32
  let v348 : BitVec 32 := Scalar.xori v2 c4_i32_404
  let c1_i32_410 : BitVec 32 := 1#32
  let v349 : BitVec 32 := Scalar.muli v348 c1_i32_410
  let v350 : BitVec 32 := Scalar.addi c0_i32_411 v349
  v350.toNat
def k0_off9 (d0 : Dev nD) : Fin 2 → Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_9 : BitVec 32 := 256#32
  let v19 : BitVec 32 := Scalar.muli v9 c256_i32_9
  let v20 : BitVec 32 := Scalar.addi c0_i32_10 v19
  let c3_i32_5 : BitVec 32 := 3#32
  let v10 : BitVec 32 := Scalar.andi v2 c3_i32_5
  let c64_i32_414 : BitVec 32 := 64#32
  let v357 : BitVec 32 := Scalar.muli v10 c64_i32_414
  let v358 : BitVec 32 := Scalar.addi v20 v357
  let v382 : Index := Scalar.indexCast v358
  let c512_451 : Index := 512#32
  ![v382.toNat, 512]
def k0_off10 (d0 : Dev nD) : Fin 2 → Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_9 : BitVec 32 := 256#32
  let v19 : BitVec 32 := Scalar.muli v9 c256_i32_9
  let v20 : BitVec 32 := Scalar.addi c0_i32_10 v19
  let c3_i32_5 : BitVec 32 := 3#32
  let v10 : BitVec 32 := Scalar.andi v2 c3_i32_5
  let c64_i32_11 : BitVec 32 := 64#32
  let v21 : BitVec 32 := Scalar.muli v10 c64_i32_11
  let v22 : BitVec 32 := Scalar.addi v20 v21
  let c2_i32_6 : BitVec 32 := 2#32
  let v11 : BitVec 32 := Scalar.shrsi v2 c2_i32_6
  let c1_i32_7 : BitVec 32 := 1#32
  let v12 : BitVec 32 := Scalar.andi v11 c1_i32_7
  let c1_i32_480 : BitVec 32 := 1#32
  let v401 : BitVec 32 := Scalar.xori v12 c1_i32_480
  let c32_i32_481 : BitVec 32 := 32#32
  let v402 : BitVec 32 := Scalar.muli v401 c32_i32_481
  let v403 : BitVec 32 := Scalar.addi v22 v402
  let c512_i32_492 : BitVec 32 := 512#32
  ![v403.toNat, 512]
def k0_dev21 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_482 : BitVec 32 := 4#32
  let v404 : BitVec 32 := Scalar.xori v2 c4_i32_482
  let c1_i32_488 : BitVec 32 := 1#32
  let v405 : BitVec 32 := Scalar.muli v404 c1_i32_488
  let v406 : BitVec 32 := Scalar.addi c0_i32_489 v405
  v406.toNat
def k0_off11 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32 : BitVec 32 := 256#32
  let v13 : BitVec 32 := Scalar.muli v3 c256_i32
  let v14 : BitVec 32 := Scalar.addi c0_i32 v13
  let c3_i32_0 : BitVec 32 := 3#32
  let v4 : BitVec 32 := Scalar.shrsi v2 c3_i32_0
  let c3_i32_1 : BitVec 32 := 3#32
  let v5 : BitVec 32 := Scalar.andi v4 c3_i32_1
  let c64_i32 : BitVec 32 := 64#32
  let v15 : BitVec 32 := Scalar.muli v5 c64_i32
  let v16 : BitVec 32 := Scalar.addi v14 v15
  let c2_i32 : BitVec 32 := 2#32
  let v6 : BitVec 32 := Scalar.shrsi v2 c2_i32
  let c1_i32_2 : BitVec 32 := 1#32
  let v7 : BitVec 32 := Scalar.andi v6 c1_i32_2
  let c32_i32_493 : BitVec 32 := 32#32
  let v413 : BitVec 32 := Scalar.muli v7 c32_i32_493
  let v414 : BitVec 32 := Scalar.addi v16 v413
  let v422 : Index := Scalar.indexCast v414
  let c0_505 : Index := 0#32
  ![v422.toNat, 0]
def k0_off12 (d0 : Dev nD) : Fin 2 → Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_9 : BitVec 32 := 256#32
  let v19 : BitVec 32 := Scalar.muli v9 c256_i32_9
  let v20 : BitVec 32 := Scalar.addi c0_i32_10 v19
  let c3_i32_5 : BitVec 32 := 3#32
  let v10 : BitVec 32 := Scalar.andi v2 c3_i32_5
  let c64_i32_11 : BitVec 32 := 64#32
  let v21 : BitVec 32 := Scalar.muli v10 c64_i32_11
  let v22 : BitVec 32 := Scalar.addi v20 v21
  let c2_i32_6 : BitVec 32 := 2#32
  let v11 : BitVec 32 := Scalar.shrsi v2 c2_i32_6
  let c1_i32_7 : BitVec 32 := 1#32
  let v12 : BitVec 32 := Scalar.andi v11 c1_i32_7
  let c32_i32_516 : BitVec 32 := 32#32
  let v433 : BitVec 32 := Scalar.muli v12 c32_i32_516
  let v434 : BitVec 32 := Scalar.addi v22 v433
  let v442 : Index := Scalar.indexCast v434
  let c512_529 : Index := 512#32
  ![v442.toNat, 512]
def k0_off13 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32 : BitVec 32 := 256#32
  let v13 : BitVec 32 := Scalar.muli v3 c256_i32
  let v14 : BitVec 32 := Scalar.addi c0_i32 v13
  let c3_i32_0 : BitVec 32 := 3#32
  let v4 : BitVec 32 := Scalar.shrsi v2 c3_i32_0
  let c3_i32_1 : BitVec 32 := 3#32
  let v5 : BitVec 32 := Scalar.andi v4 c3_i32_1
  let c64_i32 : BitVec 32 := 64#32
  let v15 : BitVec 32 := Scalar.muli v5 c64_i32
  let v16 : BitVec 32 := Scalar.addi v14 v15
  let c2_i32 : BitVec 32 := 2#32
  let v6 : BitVec 32 := Scalar.shrsi v2 c2_i32
  let c1_i32_2 : BitVec 32 := 1#32
  let v7 : BitVec 32 := Scalar.andi v6 c1_i32_2
  let c32_i32_8 : BitVec 32 := 32#32
  let v17 : BitVec 32 := Scalar.muli v7 c32_i32_8
  let v18 : BitVec 32 := Scalar.addi v16 v17
  let c0_i32_548 : BitVec 32 := 0#32
  ![v18.toNat, 0]
def k0_dev22 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_540 : BitVec 32 := 4#32
  let v453 : BitVec 32 := Scalar.xori v2 c4_i32_540
  let c1_i32_546 : BitVec 32 := 1#32
  let v454 : BitVec 32 := Scalar.muli v453 c1_i32_546
  let v455 : BitVec 32 := Scalar.addi c0_i32_547 v454
  v455.toNat
def k0_off14 (d0 : Dev nD) : Fin 2 → Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_9 : BitVec 32 := 256#32
  let v19 : BitVec 32 := Scalar.muli v9 c256_i32_9
  let v20 : BitVec 32 := Scalar.addi c0_i32_10 v19
  let c3_i32_5 : BitVec 32 := 3#32
  let v10 : BitVec 32 := Scalar.andi v2 c3_i32_5
  let c64_i32_11 : BitVec 32 := 64#32
  let v21 : BitVec 32 := Scalar.muli v10 c64_i32_11
  let v22 : BitVec 32 := Scalar.addi v20 v21
  let c2_i32_6 : BitVec 32 := 2#32
  let v11 : BitVec 32 := Scalar.shrsi v2 c2_i32_6
  let c1_i32_7 : BitVec 32 := 1#32
  let v12 : BitVec 32 := Scalar.andi v11 c1_i32_7
  let c32_i32_12 : BitVec 32 := 32#32
  let v23 : BitVec 32 := Scalar.muli v12 c32_i32_12
  let v24 : BitVec 32 := Scalar.addi v22 v23
  let c512_i32_558 : BitVec 32 := 512#32
  ![v24.toNat, 512]
def k0_dev23 (d0 : Dev nD) : Nat :=
  let c0_i32_557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_550 : BitVec 32 := 4#32
  let v462 : BitVec 32 := Scalar.xori v2 c4_i32_550
  let c1_i32_556 : BitVec 32 := 1#32
  let v463 : BitVec 32 := Scalar.muli v462 c1_i32_556
  let v464 : BitVec 32 := Scalar.addi c0_i32_557 v463
  v464.toNat
def k0_off15 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32 : BitVec 32 := 256#32
  let v13 : BitVec 32 := Scalar.muli v3 c256_i32
  let v14 : BitVec 32 := Scalar.addi c0_i32 v13
  let c3_i32_0 : BitVec 32 := 3#32
  let v4 : BitVec 32 := Scalar.shrsi v2 c3_i32_0
  let c3_i32_1 : BitVec 32 := 3#32
  let v5 : BitVec 32 := Scalar.andi v4 c3_i32_1
  let c64_i32 : BitVec 32 := 64#32
  let v15 : BitVec 32 := Scalar.muli v5 c64_i32
  let v16 : BitVec 32 := Scalar.addi v14 v15
  let c0_i32_587 : BitVec 32 := 0#32
  ![v16.toNat, 0]
def k0_dev24 (d0 : Dev nD) : Nat :=
  let c0_i32_586 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_577 : BitVec 32 := 8#32
  let v481 : BitVec 32 := Scalar.xori v2 c8_i32_577
  let c1_i32_585 : BitVec 32 := 1#32
  let v484 : BitVec 32 := Scalar.muli v481 c1_i32_585
  let v485 : BitVec 32 := Scalar.addi c0_i32_586 v484
  v485.toNat
def k0_dev25 (d0 : Dev nD) : Nat :=
  let c0_i32_595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_578 : BitVec 32 := 16#32
  let v482 : BitVec 32 := Scalar.xori v2 c16_i32_578
  let c1_i32_594 : BitVec 32 := 1#32
  let v492 : BitVec 32 := Scalar.muli v482 c1_i32_594
  let v493 : BitVec 32 := Scalar.addi c0_i32_595 v492
  v493.toNat
def k0_dev26 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_579 : BitVec 32 := 24#32
  let v483 : BitVec 32 := Scalar.xori v2 c24_i32_579
  let c1_i32_603 : BitVec 32 := 1#32
  let v500 : BitVec 32 := Scalar.muli v483 c1_i32_603
  let v501 : BitVec 32 := Scalar.addi c0_i32_604 v500
  v501.toNat
def k0_off16 (d0 : Dev nD) : Fin 2 → Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_9 : BitVec 32 := 256#32
  let v19 : BitVec 32 := Scalar.muli v9 c256_i32_9
  let v20 : BitVec 32 := Scalar.addi c0_i32_10 v19
  let c3_i32_5 : BitVec 32 := 3#32
  let v10 : BitVec 32 := Scalar.andi v2 c3_i32_5
  let c64_i32_11 : BitVec 32 := 64#32
  let v21 : BitVec 32 := Scalar.muli v10 c64_i32_11
  let v22 : BitVec 32 := Scalar.addi v20 v21
  let c512_i32_634 : BitVec 32 := 512#32
  ![v22.toNat, 512]
def k0_dev27 (d0 : Dev nD) : Nat :=
  let c0_i32_633 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_624 : BitVec 32 := 1#32
  let v518 : BitVec 32 := Scalar.xori v2 c1_i32_624
  let c1_i32_632 : BitVec 32 := 1#32
  let v521 : BitVec 32 := Scalar.muli v518 c1_i32_632
  let v522 : BitVec 32 := Scalar.addi c0_i32_633 v521
  v522.toNat
def k0_dev28 (d0 : Dev nD) : Nat :=
  let c0_i32_642 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_625 : BitVec 32 := 2#32
  let v519 : BitVec 32 := Scalar.xori v2 c2_i32_625
  let c1_i32_641 : BitVec 32 := 1#32
  let v529 : BitVec 32 := Scalar.muli v519 c1_i32_641
  let v530 : BitVec 32 := Scalar.addi c0_i32_642 v529
  v530.toNat
def k0_dev29 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_626 : BitVec 32 := 3#32
  let v520 : BitVec 32 := Scalar.xori v2 c3_i32_626
  let c1_i32_650 : BitVec 32 := 1#32
  let v537 : BitVec 32 := Scalar.muli v520 c1_i32_650
  let v538 : BitVec 32 := Scalar.addi c0_i32_651 v537
  v538.toNat
def k0_off17 (d0 : Dev nD) : Fin 2 → Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v3 : BitVec 32 := Scalar.andi v2 c3_i32
  let c256_i32 : BitVec 32 := 256#32
  let v13 : BitVec 32 := Scalar.muli v3 c256_i32
  let v14 : BitVec 32 := Scalar.addi c0_i32 v13
  let c0_i32_715 : BitVec 32 := 0#32
  ![v14.toNat, 0]
def k0_dev30 (d0 : Dev nD) : Nat :=
  let c0_i32_714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_705 : BitVec 32 := 1#32
  let v575 : BitVec 32 := Scalar.xori v2 c1_i32_705
  let c1_i32_713 : BitVec 32 := 1#32
  let v578 : BitVec 32 := Scalar.muli v575 c1_i32_713
  let v579 : BitVec 32 := Scalar.addi c0_i32_714 v578
  v579.toNat
def k0_dev31 (d0 : Dev nD) : Nat :=
  let c0_i32_723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_706 : BitVec 32 := 2#32
  let v576 : BitVec 32 := Scalar.xori v2 c2_i32_706
  let c1_i32_722 : BitVec 32 := 1#32
  let v586 : BitVec 32 := Scalar.muli v576 c1_i32_722
  let v587 : BitVec 32 := Scalar.addi c0_i32_723 v586
  v587.toNat
def k0_dev32 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_707 : BitVec 32 := 3#32
  let v577 : BitVec 32 := Scalar.xori v2 c3_i32_707
  let c1_i32_731 : BitVec 32 := 1#32
  let v594 : BitVec 32 := Scalar.muli v577 c1_i32_731
  let v595 : BitVec 32 := Scalar.addi c0_i32_732 v594
  v595.toNat
def k0_off18 (d0 : Dev nD) : Fin 2 → Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_3 : BitVec 32 := 3#32
  let v8 : BitVec 32 := Scalar.shrsi v2 c3_i32_3
  let c3_i32_4 : BitVec 32 := 3#32
  let v9 : BitVec 32 := Scalar.andi v8 c3_i32_4
  let c256_i32_9 : BitVec 32 := 256#32
  let v19 : BitVec 32 := Scalar.muli v9 c256_i32_9
  let v20 : BitVec 32 := Scalar.addi c0_i32_10 v19
  let c512_i32_796 : BitVec 32 := 512#32
  ![v20.toNat, 512]
def k0_dev33 (d0 : Dev nD) : Nat :=
  let c0_i32_795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_786 : BitVec 32 := 8#32
  let v632 : BitVec 32 := Scalar.xori v2 c8_i32_786
  let c1_i32_794 : BitVec 32 := 1#32
  let v635 : BitVec 32 := Scalar.muli v632 c1_i32_794
  let v636 : BitVec 32 := Scalar.addi c0_i32_795 v635
  v636.toNat
def k0_dev34 (d0 : Dev nD) : Nat :=
  let c0_i32_804 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_787 : BitVec 32 := 16#32
  let v633 : BitVec 32 := Scalar.xori v2 c16_i32_787
  let c1_i32_803 : BitVec 32 := 1#32
  let v643 : BitVec 32 := Scalar.muli v633 c1_i32_803
  let v644 : BitVec 32 := Scalar.addi c0_i32_804 v643
  v644.toNat
def k0_dev35 (d0 : Dev nD) : Nat :=
  let c0_i32_813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_788 : BitVec 32 := 24#32
  let v634 : BitVec 32 := Scalar.xori v2 c24_i32_788
  let c1_i32_812 : BitVec 32 := 1#32
  let v651 : BitVec 32 := Scalar.muli v634 c1_i32_812
  let v652 : BitVec 32 := Scalar.addi c0_i32_813 v651
  v652.toNat
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x65536 : Shape := ⟨2, ![1024, 65536]⟩
abbrev S65536x1024 : Shape := ⟨2, ![65536, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x65536, .bf16⟩
  | .hbm, ⟨2, _⟩ => ⟨S65536x1024, .bf16⟩
  | .hbm, ⟨3, _⟩ => ⟨S1024x1024, .f32⟩
  | .hbm, ⟨4, _⟩ => ⟨S1024x65536, .f32⟩
  | .hbm, ⟨5, _⟩ => ⟨S65536x1024, .f32⟩
  | .hbm, ⟨6, _⟩ => ⟨S1024x65536, .f32⟩
  | .hbm, ⟨7, _⟩ => ⟨S_, .f32⟩
  | .hbm, ⟨8, _⟩ => ⟨S1024x65536, .f32⟩
  | .hbm, ⟨9, _⟩ => ⟨S1024x65536, .f32⟩
  | .hbm, ⟨10, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Steps.lean ====
module

public import proofs.«01_k».proof.Proof.Gen.KernelIdeal.Skeleton

@[expose] public section

/-! # The kernel's body as a sequence of steps

The body consists of a few kinds of steps, repeated for the two column streams `s`, the three
phases `p` and the exchanges `d` of a phase (three in the first and in the second phase, one in the third).
Here each kind is written once, over `s`, `p` and `d`, and the body is shown to be the sequence of them. -/

noncomputable section

namespace Cert.KernelIdeal.Gen

open Idealize.ShloMosaic Idealize.SL.Sem

variable {F : FTy → Type} [FloatOps F]

/-! ## Tables -/

/-- A block of `q` rows of one column stream. -/
abbrev Sq (q : ℕ) : Shape := ⟨2, ![q, 512]⟩

/-- The number of rows that a device keeps after phase `p`, which is also what an exchange of the phase moves. -/
def kq : Fin 3 → ℕ | 0 => 256 | 1 => 64 | 2 => 32
/-- The first landing row of the exchange `d` of phase `p`. -/
def stRow : Fin 3 → Fin 3 → ℕ
  | 0, 0 => 0 | 0, 1 => 256 | 0, 2 => 512 | 1, 0 => 768 | 1, 1 => 832 | 1, 2 => 896 | 2, _ => 960
/-- The first column of stream `s`. -/
def col : Fin 2 → ℕ | 0 => 0 | 1 => 512

/-- The device to which device `c` signals at its `j`-th signal. -/
def barDev (c : Dev nD) : Fin 7 → Dev nD
  | 0 => ⟨k0_dev1 c, k0_dev1_lt c⟩ | 1 => ⟨k0_dev2 c, k0_dev2_lt c⟩ | 2 => ⟨k0_dev3 c, k0_dev3_lt c⟩
  | 3 => ⟨k0_dev4 c, k0_dev4_lt c⟩ | 4 => ⟨k0_dev5 c, k0_dev5_lt c⟩ | 5 => ⟨k0_dev6 c, k0_dev6_lt c⟩
  | 6 => ⟨k0_dev7 c, k0_dev7_lt c⟩

/-- The device to which the scattering exchange `d` of phase `p` of stream `s` sends. (The last phase has one exchange.) -/
def rsDev (c : Dev nD) : Fin 2 → Fin 3 → Fin 3 → Dev nD
  | 0, 0, 0 => ⟨k0_dev8 c, k0_dev8_lt c⟩ | 0, 0, 1 => ⟨k0_dev9 c, k0_dev9_lt c⟩ | 0, 0, 2 => ⟨k0_dev10 c, k0_dev10_lt c⟩
  | 0, 1, 0 => ⟨k0_dev14 c, k0_dev14_lt c⟩ | 0, 1, 1 => ⟨k0_dev15 c, k0_dev15_lt c⟩ | 0, 1, 2 => ⟨k0_dev16 c, k0_dev16_lt c⟩
  | 0, 2, _ => ⟨k0_dev20 c, k0_dev20_lt c⟩
  | 1, 0, 0 => ⟨k0_dev11 c, k0_dev11_lt c⟩ | 1, 0, 1 => ⟨k0_dev12 c, k0_dev12_lt c⟩ | 1, 0, 2 => ⟨k0_dev13 c, k0_dev13_lt c⟩
  | 1, 1, 0 => ⟨k0_dev17 c, k0_dev17_lt c⟩ | 1, 1, 1 => ⟨k0_dev18 c, k0_dev18_lt c⟩ | 1, 1, 2 => ⟨k0_dev19 c, k0_dev19_lt c⟩
  | 1, 2, _ => ⟨k0_dev21 c, k0_dev21_lt c⟩

/-- The device to which the gathering exchange `d` of phase `p` of stream `s` sends. -/
def agDev (c : Dev nD) : Fin 2 → Fin 3 → Fin 3 → Dev nD
  | 0, 0, 0 => ⟨k0_dev30 c, k0_dev30_lt c⟩ | 0, 0, 1 => ⟨k0_dev31 c, k0_dev31_lt c⟩ | 0, 0, 2 => ⟨k0_dev32 c, k0_dev32_lt c⟩
  | 0, 1, 0 => ⟨k0_dev24 c, k0_dev24_lt c⟩ | 0, 1, 1 => ⟨k0_dev25 c, k0_dev25_lt c⟩ | 0, 1, 2 => ⟨k0_dev26 c, k0_dev26_lt c⟩
  | 0, 2, _ => ⟨k0_dev22 c, k0_dev22_lt c⟩
  | 1, 0, 0 => ⟨k0_dev33 c, k0_dev33_lt c⟩ | 1, 0, 1 => ⟨k0_dev34 c, k0_dev34_lt c⟩ | 1, 0, 2 => ⟨k0_dev35 c, k0_dev35_lt c⟩
  | 1, 1, 0 => ⟨k0_dev27 c, k0_dev27_lt c⟩ | 1, 1, 1 => ⟨k0_dev28 c, k0_dev28_lt c⟩ | 1, 1, 2 => ⟨k0_dev29 c, k0_dev29_lt c⟩
  | 1, 2, _ => ⟨k0_dev23 c, k0_dev23_lt c⟩

/-- Where the block begins that the scattering exchange `d` of phase `p` of stream `s` sends. -/
def srcOff (c : Dev nD) : Fin 2 → Fin 3 → Fin 3 → Fin 2 → ℕ
  | 0, 0, 0 => k0_off1 c 1#32 | 0, 0, 1 => k0_off1 c 2#32 | 0, 0, 2 => k0_off1 c 3#32
  | 0, 1, 0 => k0_off4 c 1#32 | 0, 1, 1 => k0_off4 c 2#32 | 0, 1, 2 => k0_off4 c 3#32
  | 0, 2, _ => k0_off8 c
  | 1, 0, 0 => k0_off2 c 1#32 | 1, 0, 1 => k0_off2 c 2#32 | 1, 0, 2 => k0_off2 c 3#32
  | 1, 1, 0 => k0_off6 c 1#32 | 1, 1, 1 => k0_off6 c 2#32 | 1, 1, 2 => k0_off6 c 3#32
  | 1, 2, _ => k0_off10 c

/-- Where the block begins that the device keeps after phase `p`, as the summing step computes it. -/
def keepOff (c : Dev nD) : Fin 2 → Fin 3 → Fin 2 → ℕ
  | 0, 0 => k0_off3 c | 0, 1 => k0_off7 c | 0, 2 => k0_off11 c
  | 1, 0 => k0_off5 c | 1, 1 => k0_off9 c | 1, 2 => k0_off12 c

/-- The same, as the gathering exchanges compute it. -/
def segOff (c : Dev nD) : Fin 2 → Fin 3 → Fin 2 → ℕ
  | 0, 0 => k0_off17 c | 0, 1 => k0_off15 c | 0, 2 => k0_off13 c
  | 1, 0 => k0_off18 c | 1, 1 => k0_off16 c | 1, 2 => k0_off14 c

/-! ## The bounds -/

theorem sq_pos : ∀ p : Fin 3, 0 < (Sq (kq p)).numel := by decide

theorem srcOff_inb : ∀ (c : Dev nD) (s : Fin 2) (p d : Fin 3) (a : Fin 2), srcOff c s p d a + (Sq (kq p)).size a ≤ S1024x1024.size a := by
  decide +kernel
theorem keepOff_inb : ∀ (c : Dev nD) (s : Fin 2) (p : Fin 3) (a : Fin 2), keepOff c s p a + (Sq (kq p)).size a ≤ S1024x1024.size a := by
  decide +kernel
theorem segOff_inb : ∀ (c : Dev nD) (s : Fin 2) (p : Fin 3) (a : Fin 2), segOff c s p a + (Sq (kq p)).size a ≤ S1024x1024.size a := by
  decide +kernel
theorem stOff_inb : ∀ (s : Fin 2) (p d : Fin 3) (a : Fin 2), (![stRow p d, col s] : Fin 2 → ℕ) a + (Sq (kq p)).size a ≤ S1024x1024.size a := by
  decide +kernel
theorem half_inb : ∀ (s : Fin 2) (a : Fin 2), (![0, col s] : Fin 2 → ℕ) a + S1024x512.size a ≤ S1024x1024.size a := by
  decide +kernel

/-- The accumulator and the landing buffer. -/
abbrev accM : Memref sig .tc .vmem S1024x1024 .bf16 := Memref.whole cc0_scratch0
abbrev stgM : Memref sig .tc .vmem S1024x1024 .bf16 := Memref.whole cc0_scratch1
theorem hacc : (accM : Memref sig .tc .vmem S1024x1024 .bf16).IsWhole := Memref.isWhole_whole _
theorem hstg : (stgM : Memref sig .tc .vmem S1024x1024 .bf16).IsWhole := Memref.isWhole_whole _

/-- The rectangles. -/
abbrev srcR (c : Dev nD) (s : Fin 2) (p d : Fin 3) : Rect S1024x1024 := Rect.unit (s := S1024x1024) (srcOff c s p d) (Sq (kq p)).size (srcOff_inb c s p d)
abbrev keepR (c : Dev nD) (s : Fin 2) (p : Fin 3) : Rect S1024x1024 := Rect.unit (s := S1024x1024) (keepOff c s p) (Sq (kq p)).size (keepOff_inb c s p)
abbrev segR (c : Dev nD) (s : Fin 2) (p : Fin 3) : Rect S1024x1024 := Rect.unit (s := S1024x1024) (segOff c s p) (Sq (kq p)).size (segOff_inb c s p)
abbrev stR (s : Fin 2) (p d : Fin 3) : Rect S1024x1024 := Rect.unit (s := S1024x1024) ![stRow p d, col s] (Sq (kq p)).size (stOff_inb s p d)
abbrev halfR (s : Fin 2) : Rect S1024x1024 := Rect.unit (s := S1024x1024) ![0, col s] S1024x512.size (half_inb s)

theorem src_words : ∀ (c : Dev nD) (s : Fin 2) (p d : Fin 3), (srcR c s p d).WholeWords (EltTy.packing .bf16) := by decide +kernel
theorem seg_words : ∀ (c : Dev nD) (s : Fin 2) (p : Fin 3), (segR c s p).WholeWords (EltTy.packing .bf16) := by decide +kernel
theorem st_words : ∀ (s : Fin 2) (p d : Fin 3), (stR s p d).WholeWords (EltTy.packing .bf16) := by decide +kernel
theorem keep_packed : ∀ (c : Dev nD) (s : Fin 2) (p : Fin 3), (keepR c s p).PackedRows (EltTy.packing .bf16) := by decide +kernel
theorem half_packed : ∀ (s : Fin 2), (halfR s).PackedRows (EltTy.packing .bf16) := by decide +kernel

/-- The memrefs that the copies and the waits name. -/
abbrev srcM (c : Dev nD) (s : Fin 2) (p d : Fin 3) : Memref sig .tc .vmem (Sq (kq p)) .bf16 := (accM).slice (srcR c s p d) (fun _ => rfl)
abbrev segM (c : Dev nD) (s : Fin 2) (p : Fin 3) : Memref sig .tc .vmem (Sq (kq p)) .bf16 := (accM).slice (segR c s p) (fun _ => rfl)
abbrev stM (s : Fin 2) (p d : Fin 3) : Memref sig .tc .vmem (Sq (kq p)) .bf16 := (stgM).slice (stR s p d) (fun _ => rfl)

theorem srcM_exact (c : Dev nD) (s : Fin 2) (p d : Fin 3) : (srcM c s p d).view.WordExact := hacc.wordExact_slice rfl _ (src_words c s p d)
theorem segM_exact (c : Dev nD) (s : Fin 2) (p : Fin 3) : (segM c s p).view.WordExact := hacc.wordExact_slice rfl _ (seg_words c s p)
theorem stM_exact (s : Fin 2) (p d : Fin 3) : (stM s p d).view.WordExact := hstg.wordExact_slice rfl _ (st_words s p d)

/-! ## The semaphores -/

theorem lane_inb : ∀ (s : Fin 2) (d : Fin 3) (a : Fin 2), (![s.val, d.val] : Fin 2 → ℕ) a + S1x1.size a ≤ S2x3.size a := by decide +kernel
theorem recv_inb : ∀ (s : Fin 2) (p d : Fin 3) (a : Fin 3), (![s.val, p.val, d.val] : Fin 3 → ℕ) a + S1x1x1.size a ≤ S2x3x3.size a := by decide +kernel

/-- The kernel's barrier semaphore. -/
abbrev barS : Sem sig := (SemArray.scalar (sig.barrier 0 rfl) : Sems sig S_).sem
/-- The send semaphore of lane `d` of stream `s`. -/
abbrev sendS (s : Fin 2) (d : Fin 3) : DmaSem sig :=
  ((cc0_scratch2.slice (Rect.unit (s := S2x3) ![s.val, d.val] S1x1.size (lane_inb s d))).squeeze S_ squeezes_S1x1_S_).sem
/-- The receive semaphore of a scattering exchange. -/
abbrev rsS (s : Fin 2) (p d : Fin 3) : DmaSem sig :=
  ((cc0_scratch3.slice (Rect.unit (s := S2x3x3) ![s.val, p.val, d.val] S1x1x1.size (recv_inb s p d))).squeeze S_ squeezes_S1x1x1_S_).sem
/-- The receive semaphore of a gathering exchange. -/
abbrev agS (s : Fin 2) (p d : Fin 3) : DmaSem sig :=
  ((cc0_scratch4.slice (Rect.unit (s := S2x3x3) ![s.val, p.val, d.val] S1x1x1.size (recv_inb s p d))).squeeze S_ squeezes_S1x1x1_S_).sem

/-! ## The steps -/

variable (F) in
/-- Start the scattering exchange `d` of phase `p`. -/
def rsSend (c : Dev nD) (s : Fin 2) (p d : Fin 3) : Prog (TpuEff nD τ sig (Elt F) Λ₀ .tc) PUnit :=
  Prog.lift (.enqueueDma (srcM c s p d) (.remote (Dev.tc (rsDev c s p d)) (stM s p d) (.dma (sendS s d))) (.dma (rsS s p d))
    (srcM_exact c s p d) (stM_exact s p d) ⟨⟨rfl, Or.inl rfl⟩, trivial⟩)
variable (F) in
/-- Wait until the piece of the scattering exchange `d` of phase `p` has come. -/
def rsWait (c : Dev nD) (s : Fin 2) (p d : Fin 3) : Prog (TpuEff nD τ sig (Elt F) Λ₀ .tc) PUnit :=
  Prog.lift (.waitDma2 (rsS s p d) (srcM c s p d) (stM s p d) (srcM_exact c s p d) (stM_exact s p d))
variable (F) in
/-- Wait until the own piece of the scattering exchange `d` of phase `p` has left. -/
def rsDone (c : Dev nD) (s : Fin 2) (p d : Fin 3) : Prog (TpuEff nD τ sig (Elt F) Λ₀ .tc) PUnit :=
  Prog.lift (.waitDma2 (sendS s d) (stM s p d) (srcM c s p d) (stM_exact s p d) (srcM_exact c s p d))
variable (F) in
/-- Start the gathering exchange `d` of phase `p`. -/
def agSend (c : Dev nD) (s : Fin 2) (p d : Fin 3) : Prog (TpuEff nD τ sig (Elt F) Λ₀ .tc) PUnit :=
  Prog.lift (.enqueueDma (segM c s p) (.remote (Dev.tc (agDev c s p d)) (segM c s p) (.dma (sendS s d))) (.dma (agS s p d))
    (segM_exact c s p) (segM_exact c s p) ⟨⟨rfl, Or.inl rfl⟩, trivial⟩)
variable (F) in
/-- Wait on semaphore `q` for a copy of a gathered block. -/
def agWaitOn (q : DmaSem sig) (c : Dev nD) (s : Fin 2) (p : Fin 3) : Prog (TpuEff nD τ sig (Elt F) Λ₀ .tc) PUnit :=
  Prog.lift (.waitDma2 q (segM c s p) (segM c s p) (segM_exact c s p) (segM_exact c s p))
variable (F) in
/-- Load the piece that the scattering exchange `d` of phase `p` brought. -/
def ldStage (s : Fin 2) (p d : Fin 3) : Prog (TpuEff nD τ sig (Elt F) Λ₀ .tc) (Vec F (Sq (kq p)) .bf16) :=
  Prog.lift (.load stgM (stR s p d).toLoadRect (View.loadsAt_vmem (sq_pos p)))
variable (F) in
/-- Load the block that the device keeps after phase `p`. -/
def ldKeep (c : Dev nD) (s : Fin 2) (p : Fin 3) : Prog (TpuEff nD τ sig (Elt F) Λ₀ .tc) (Vec F (Sq (kq p)) .bf16) :=
  Prog.lift (.load accM (keepR c s p).toLoadRect (View.loadsAt_vmem (sq_pos p)))
/-- Store the block that the device keeps after phase `p`. -/
def stKeep (c : Dev nD) (s : Fin 2) (p : Fin 3) (v : Vec F (Sq (kq p)) .bf16) : Prog (TpuEff nD τ sig (Elt F) Λ₀ .tc) PUnit :=
  Prog.lift (.store accM (keepR c s p) v Finset.univ
    (View.stores_vmem (sq_pos p) (hacc.storeExact_slice rfl _ (keep_packed c s p)) (fun _ => rfl)) (.inl rfl))
variable (F) in
/-- Load a column half of the accumulator. -/
def ldHalf (s : Fin 2) : Prog (TpuEff nD τ sig (Elt F) Λ₀ .tc) (Vec F S1024x512 .bf16) :=
  Prog.lift (.load accM (halfR s).toLoadRect (View.loadsAt_vmem h_S1024x512))
/-- Store a column half of the accumulator. -/
def stHalf (s : Fin 2) (v : Vec F S1024x512 .bf16) : Prog (TpuEff nD τ sig (Elt F) Λ₀ .tc) PUnit :=
  Prog.lift (.store accM (halfR s) v Finset.univ (View.stores_vmem h_S1024x512 (hacc.storeExact_slice rfl _ (half_packed s)) (fun _ => rfl)) (.inl rfl))

/-! ## The sums -/

/-- The sum of the kept block and the three pieces that came, as the kernel writes it. -/
def sum4 : (s : Fin 2) → (p : Fin 3) → (v1 v2 v3 va : Vec F (Sq (kq p)) .bf16) → Vec F (Sq (kq p)) .bf16
  | 0, 0 => k0_pay5 | 1, 0 => k0_pay6 | 0, 1 => k0_pay7 | 1, 1 => k0_pay8
  | 0, 2 => fun _ _ _ va => va | 1, 2 => fun _ _ _ va => va
/-- The sum of the kept block and the one piece that came, as the kernel writes it. -/
def sum2 : (s : Fin 2) → (v va : Vec F (Sq (kq 2)) .bf16) → Vec F (Sq (kq 2)) .bf16
  | 0 => k0_pay9 | 1 => k0_pay10

/-! ## Groups of steps -/

variable (F) in
def rsSend4 (c : Dev nD) (s : Fin 2) (p : Fin 3) : Prog (TpuEff nD τ sig (Elt F) Λ₀ .tc) PUnit := do
  rsSend F c s p 0; rsSend F c s p 1; rsSend F c s p 2
variable (F) in
/-- Wait for the three pieces of a phase, add them to the kept block, wait for the own pieces to have left. -/
def rsRecv4 (c : Dev nD) (s : Fin 2) (p : Fin 3) : Prog (TpuEff nD τ sig (Elt F) Λ₀ .tc) PUnit := do
  rsWait F c s p 0; rsWait F c s p 1; rsWait F c s p 2
  let v1 ← ldStage F s p 0
  let v2 ← ldStage F s p 1
  let v3 ← ldStage F s p 2
  let va ← ldKeep F c s p
  let _ ← ldKeep F c s p
  stKeep c s p (sum4 s p v1 v2 v3 va)
  rsDone F c s p 0; rsDone F c s p 1; rsDone F c s p 2
variable (F) in
def rsRecv2 (c : Dev nD) (s : Fin 2) : Prog (TpuEff nD τ sig (Elt F) Λ₀ .tc) PUnit := do
  rsWait F c s 2 0
  let v ← ldStage F s 2 0
  let va ← ldKeep F c s 2
  let _ ← ldKeep F c s 2
  stKeep c s 2 (sum2 s v va)
  rsDone F c s 2 0
variable (F) in
def agSend4 (c : Dev nD) (s : Fin 2) (p : Fin 3) : Prog (TpuEff nD τ sig (Elt F) Λ₀ .tc) PUnit := do
  agSend F c s p 0; agSend F c s p 1; agSend F c s p 2
variable (F) in
def agWait4 (c : Dev nD) (s : Fin 2) (p : Fin 3) : Prog (TpuEff nD τ sig (Elt F) Λ₀ .tc) PUnit := do
  agWaitOn F (agS s p 0) c s p; agWaitOn F (agS s p 1) c s p; agWaitOn F (agS s p 2) c s p
  agWaitOn F (sendS s 0) c s p; agWaitOn F (sendS s 1) c s p; agWaitOn F (sendS s 2) c s p
variable (F) in
def agWait2 (c : Dev nD) (s : Fin 2) : Prog (TpuEff nD τ sig (Elt F) Λ₀ .tc) PUnit := do
  agWaitOn F (agS s 2 0) c s 2; agWaitOn F (sendS s 0) c s 2

abbrev xM : Memref sig .tc .vmem S1024x1024 .bf16 := Memref.whole cc0_stg0_0
abbrev w1M : Memref sig .tc .vmem S1024x2048 .bf16 := Memref.whole cc0_stg1_0
abbrev w2M : Memref sig .tc .vmem S2048x1024 .bf16 := Memref.whole cc0_stg2_0
abbrev outM : Memref sig .tc .vmem S1024x1024 .f32 := Memref.whole cc0_stg3_0

variable (F) in
/-- The whole body. -/
def steps : Prog (TpuEff nD τ sig (Elt F) Λ₀ .tc) PUnit := do
  let c : Dev nD ← Prog.lift .deviceId
  semSignalWord (barDev c 0) barS 1#32
  semSignalWord (barDev c 1) barS 1#32
  semSignalWord (barDev c 2) barS 1#32
  semSignalWord (barDev c 3) barS 1#32
  semSignalWord (barDev c 4) barS 1#32
  semSignalWord (barDev c 5) barS 1#32
  semSignalWord (barDev c 6) barS 1#32
  let x : Vec F S1024x1024 .bf16 ← Prog.lift (.load xM (Rect.unit (s := S1024x1024) ![0, 0] S1024x1024.size inb_S1024x1024_S1024x1024_0_0).toLoadRect (View.loadsAt_vmem h_S1024x1024))
  let w1 : Vec F S1024x2048 .bf16 ← Prog.lift (.load w1M (Rect.unit (s := S1024x2048) ![0, 0] S1024x2048.size inb_S1024x2048_S1024x2048_0_0).toLoadRect (View.loadsAt_vmem h_S1024x2048))
  let w2 : Vec F S2048x1024 .bf16 ← Prog.lift (.load w2M (Rect.unit (s := S2048x1024) ![0, 0] S2048x1024.size inb_S2048x1024_S2048x1024_0_0).toLoadRect (View.loadsAt_vmem h_S2048x1024))
  let _ ← ldHalf F 0
  stHalf 0 (k0_pay3 (k0_pay1 x w1) w2)
  semWaitWord barS 7#32
  rsSend4 F c 0 0
  let _ ← ldHalf F 1
  stHalf 1 (k0_pay4 (k0_pay1 x w1) (k0_pay2 w2))
  rsSend4 F c 1 0
  rsRecv4 F c 0 0; rsSend4 F c 0 1
  rsRecv4 F c 1 0; rsSend4 F c 1 1
  rsRecv4 F c 0 1; rsSend F c 0 2 0
  rsRecv4 F c 1 1; rsSend F c 1 2 0
  rsRecv2 F c 0
  rsRecv2 F c 1
  agSend F c 0 2 0
  agSend F c 1 2 0
  agWait2 F c 0; agSend4 F c 0 1
  agWait2 F c 1; agSend4 F c 1 1
  agWait4 F c 0 1; agSend4 F c 0 0
  agWait4 F c 1 1; agSend4 F c 1 0
  agWait4 F c 0 0
  agWait4 F c 1 0
  let a : Vec F S1024x1024 .bf16 ← Prog.lift (.load accM (Rect.unit (s := S1024x1024) ![0, 0] S1024x1024.size inb_S1024x1024_S1024x1024_0_0).toLoadRect (View.loadsAt_vmem h_S1024x1024))
  let _ : Vec F S1024x1024 .f32 ← Prog.lift (.load outM (Rect.unit (s := S1024x1024) ![0, 0] S1024x1024.size inb_S1024x1024_S1024x1024_0_0).toLoadRect (View.loadsAt_vmem h_S1024x1024))
  Prog.lift (.store outM (Rect.unit (s := S1024x1024) ![0, 0] S1024x1024.size inb_S1024x1024_S1024x1024_0_0) (k0_pay11 a) Finset.univ (View.stores_vmem_bits_univ h_S1024x1024 rfl) (.inl rfl))
  pure ⟨⟩

set_option maxRecDepth 100000 in
/-- The body is this sequence of steps. -/
theorem body_steps : cc0_body (F := F) xM (Memref.isWhole_whole _) w1M (Memref.isWhole_whole _) w2M (Memref.isWhole_whole _) outM (Memref.isWhole_whole _)
    accM hacc stgM hstg cc0_scratch2 cc0_scratch3 cc0_scratch4 = steps F := by
  rw [cc0_body_eq_skeleton]
  rfl

end Cert.KernelIdeal.Gen

end
-- ==== Proof.Mesh.lean ====
module

public import proofs.«01_k».proof.Proof.Steps

@[expose] public section

/-! # Who sends what to whom

The 32 devices are the corners of a 4 × 2 × 4 box; an exchange goes to the device whose number differs in
the bits of the phase's side of the box. This file gives the arithmetic of the numbers: the peers, the rows
a device keeps after each phase, and the list of all exchanges in the order in which a device starts them. -/

namespace Cert.KernelIdeal.Gen

open Idealize.ShloMosaic Idealize.ShloMosaic.TcCoe

/-- The bits in which the peer of exchange `d` of phase `p` of stream `s` differs. -/
def mask : Fin 2 → Fin 3 → Fin 3 → ℕ
  | 0, 0, d => d.val + 1 | 0, 1, d => 8 * (d.val + 1) | 0, 2, _ => 4
  | 1, 0, d => 8 * (d.val + 1) | 1, 1, d => d.val + 1 | 1, 2, _ => 4

/-- The peer. -/
def peer (c : Dev nD) (s : Fin 2) (p d : Fin 3) : Dev nD := ⟨(c.val ^^^ mask s p d) % 32, Nat.mod_lt _ (by decide)⟩

theorem peer_peer : ∀ (c : Dev nD) (s : Fin 2) (p d : Fin 3), peer (peer c s p d) s p d = c := by decide +kernel
theorem rsDev_eq : ∀ (c : Dev nD) (s : Fin 2) (p d : Fin 3), rsDev c s p d = peer c s p d := by decide +kernel
theorem agDev_eq : ∀ (c : Dev nD) (s : Fin 2) (p d : Fin 3), agDev c s p d = peer c s p d := by decide +kernel

/-- The exchange of stream `s` that goes where the `j`-th signal goes. -/
def bt : Fin 2 → Fin 7 → Fin 3 × Fin 3
  | 0, 0 => (0, 0) | 0, 1 => (0, 1) | 0, 2 => (0, 2) | 0, 3 => (1, 0) | 0, 4 => (1, 1) | 0, 5 => (1, 2) | 0, 6 => (2, 0)
  | 1, 0 => (1, 0) | 1, 1 => (1, 1) | 1, 2 => (1, 2) | 1, 3 => (0, 0) | 1, 4 => (0, 1) | 1, 5 => (0, 2) | 1, 6 => (2, 0)
/-- The device that the `j`-th signal goes to. -/
def bpeer (c : Dev nD) (j : Fin 7) : Dev nD := peer c 0 (bt 0 j).1 (bt 0 j).2
theorem barDev_eq : ∀ (c : Dev nD) (j : Fin 7), barDev c j = bpeer c j := by decide +kernel
theorem bpeer_bpeer (c : Dev nD) (j : Fin 7) : bpeer (bpeer c j) j = c := peer_peer c 0 _ _
theorem bpeer_eq : ∀ (c : Dev nD) (s : Fin 2) (j : Fin 7), peer c s (bt s j).1 (bt s j).2 = bpeer c j := by decide +kernel

/-- The position of device `c` in phase `p` of stream `s`. -/
def grp (c : Dev nD) : Fin 2 → Fin 3 → ℕ
  | 0, 0 => c.val % 4 | 0, 1 => c.val / 8 % 4 | 0, 2 => c.val / 4 % 2
  | 1, 0 => c.val / 8 % 4 | 1, 1 => c.val % 4 | 1, 2 => c.val / 4 % 2
/-- The first row that device `c` holds before phase `p`. -/
def lo (c : Dev nD) (s : Fin 2) : Fin 3 → ℕ
  | 0 => 0 | 1 => grp c s 0 * 256 | 2 => grp c s 0 * 256 + grp c s 1 * 64
/-- The first row that device `c` keeps after phase `p`. -/
def hi (c : Dev nD) (s : Fin 2) (p : Fin 3) : ℕ := lo c s p + grp c s p * kq p
/-- The number of rows that a device holds before phase `p`. -/
def wq : Fin 3 → ℕ | 0 => 1024 | 1 => 256 | 2 => 64

theorem hi_zero (c : Dev nD) (s : Fin 2) : hi c s 0 = lo c s 1 := Nat.zero_add _
theorem hi_one (c : Dev nD) (s : Fin 2) : hi c s 1 = lo c s 2 := rfl

theorem srcOff_eq (c : Dev nD) (s : Fin 2) (p d : Fin 3) : srcOff c s p d = ![hi (peer c s p d) s p, col s] := by
  have h : ∀ (c : Dev nD) (s : Fin 2) (p d : Fin 3), srcOff c s p d 0 = hi (peer c s p d) s p ∧ srcOff c s p d 1 = col s := by decide +kernel
  funext a; fin_cases a
  exacts [(h c s p d).1, (h c s p d).2]
theorem keepOff_eq (c : Dev nD) (s : Fin 2) (p : Fin 3) : keepOff c s p = ![hi c s p, col s] := by
  have h : ∀ (c : Dev nD) (s : Fin 2) (p : Fin 3), keepOff c s p 0 = hi c s p ∧ keepOff c s p 1 = col s := by decide +kernel
  funext a; fin_cases a
  exacts [(h c s p).1, (h c s p).2]
theorem segOff_eq (c : Dev nD) (s : Fin 2) (p : Fin 3) : segOff c s p = ![hi c s p, col s] := by
  have h : ∀ (c : Dev nD) (s : Fin 2) (p : Fin 3), segOff c s p 0 = hi c s p ∧ segOff c s p 1 = col s := by decide +kernel
  funext a; fin_cases a
  exacts [(h c s p).1, (h c s p).2]

/-- The rows that a device and its three peers keep are the four quarters of what they held. -/
theorem quarters : ∀ (c : Dev nD) (s : Fin 2) (p : Fin 3), p ≠ 2 →
    [hi c s p, hi (peer c s p 0) s p, hi (peer c s p 1) s p, hi (peer c s p 2) s p].Perm
      [lo c s p, lo c s p + kq p, lo c s p + 2 * kq p, lo c s p + 3 * kq p] := by decide +kernel
/-- In the last phase a device and its peer keep the two halves. -/
theorem halves : ∀ (c : Dev nD) (s : Fin 2),
    [hi c s 2, hi (peer c s 2 0) s 2].Perm [lo c s 2, lo c s 2 + kq 2] := by decide +kernel
theorem wq_eq : ∀ p : Fin 3, p ≠ 2 → wq p = 4 * kq p := by decide

/-- The device that keeps block `k` (of 32 rows) of stream `s` in the end. -/
def owner : Fin 2 → ℕ → Dev nD
  | 0, k => ⟨(k / 8 + 8 * (k / 2 % 4) + 4 * (k % 2)) % 32, Nat.mod_lt _ (by decide)⟩
  | 1, k => ⟨(8 * (k / 8) + k / 2 % 4 + 4 * (k % 2)) % 32, Nat.mod_lt _ (by decide)⟩
theorem owner_hi : ∀ (c : Dev nD) (s : Fin 2), owner s (hi c s 2 / 32) = c ∧ hi c s 2 % 32 = 0 := by decide +kernel

/-! ## The exchanges in order -/

/-- An exchange: gathering or scattering, stream, phase, number. -/
abbrev Tr : Type := Bool × Fin 2 × Fin 3 × Fin 3

/-- All exchanges, in the order in which a device starts them. Each device waits for the pieces to come, and
    for its own to have left, in the same order. -/
def T : List Tr :=
  [(false, 0, 0, 0), (false, 0, 0, 1), (false, 0, 0, 2), (false, 1, 0, 0), (false, 1, 0, 1), (false, 1, 0, 2),
   (false, 0, 1, 0), (false, 0, 1, 1), (false, 0, 1, 2), (false, 1, 1, 0), (false, 1, 1, 1), (false, 1, 1, 2),
   (false, 0, 2, 0), (false, 1, 2, 0), (true, 0, 2, 0), (true, 1, 2, 0),
   (true, 0, 1, 0), (true, 0, 1, 1), (true, 0, 1, 2), (true, 1, 1, 0), (true, 1, 1, 1), (true, 1, 1, 2),
   (true, 0, 0, 0), (true, 0, 0, 1), (true, 0, 0, 2), (true, 1, 0, 0), (true, 1, 0, 1), (true, 1, 0, 2)]

theorem T_nodup : T.Nodup := by decide +kernel

/-- A lane: a stream and a number. -/
abbrev Ln : Type := Fin 2 × Fin 3
/-- The lane of an exchange. -/
def lane (t : Tr) : Ln := (t.2.1, t.2.2.2)
/-- How many of the first `l` exchanges use lane `L`. -/
def pos (L : Ln) (l : ℕ) : ℕ := (T.take l).countP (fun t => lane t = L)
/-- How many exchanges use lane `L`. -/
def laneLen (L : Ln) : ℕ := T.countP (fun t => lane t = L)
/-- Which use of its lane an exchange is. -/
def rnd (t : Tr) : ℕ := pos (lane t) (T.idxOf t)
/-- The exchange of a lane's `r`-th use. -/
def user (L : Ln) (r : ℕ) : Option Tr := (T.filter (fun t => lane t = L))[r]?

theorem rnd_lt : ∀ t ∈ T, rnd t < laneLen (lane t) := by decide +kernel
theorem user_rnd : ∀ t ∈ T, user (lane t) (rnd t) = some t := by decide +kernel
theorem pos_all (L : Ln) : pos L 28 = laneLen L := by
  unfold pos laneLen; rw [List.take_of_length_le]; decide

end Cert.KernelIdeal.Gen

end
-- ==== Proof.Blocks.lean ====
module

public import proofs.«01_k».proof.Proof.Mesh
public import Idealize.ShloMosaic.Lib.Pipeline.Launch
public import Idealize.ShloMosaic.Lib.Pipeline.Kit
public import Idealize.ShloMosaic.Lib.Pipeline.Value
public import Idealize.ShloMosaic.Lib.Pipeline.TalkSched
public import Idealize.ShloMosaic.Lib.Ring.Trips
public import Idealize.ShloMosaic.Lib.Tactic

@[expose] public section

/-! # The blocks of the accumulator and what they hold

A block is a range of rows of one column stream. A device's accumulator is cut into such blocks: before
phase `p` a device holds `wq p` rows of partial sums; it keeps `kq p` of them and sends the others away.
This file cuts and joins the blocks and relates the printed slices to them. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The names of duties: which of the seven signals; every other cell has one duty a round. -/
abbrev UB : Type := URounds (GSem nD τ sig) (Fin 7)
abbrev UU : Type := UR sig nD τ × UB

local notation "𝕄" => MT nD τ sig Unit (Elt F) ℕ UU ℕ

/-! ## Blocks -/

/-- The elements of rows `r` to `r + q` of stream `s`. -/
def blk (s : Fin 2) (r q : ℕ) : Finset S1024x1024.Idx :=
  Finset.univ.filter fun i => (r ≤ (i 0).val ∧ (i 0).val < r + q) ∧ (col s ≤ (i 1).val ∧ (i 1).val < col s + 512)

theorem mem_blk {s : Fin 2} {r q : ℕ} {i : S1024x1024.Idx} :
    i ∈ blk s r q ↔ (r ≤ (i 0).val ∧ (i 0).val < r + q) ∧ (col s ≤ (i 1).val ∧ (i 1).val < col s + 512) := by
  unfold blk; rw [Finset.mem_filter]; exact and_iff_right (Finset.mem_univ _)

theorem unit_set_eq {off : Fin 2 → ℕ} {q : ℕ} {s : Fin 2} {r : ℕ} (h) (e : off = ![r, col s]) :
    (Rect.unit (s := S1024x1024) off (Sq q).size h).set = blk s r q := by
  ext i
  rw [Rect.mem_set_unit, mem_blk]
  subst e
  constructor
  · exact fun H => ⟨H 0, H 1⟩
  · intro H a
    match a with
    | ⟨0, _⟩ => exact H.1
    | ⟨1, _⟩ => exact H.2

/-- A full accumulator's contents. -/
abbrev Full (F : FTy → Type) : Type := S1024x1024.Idx → Elt F .bf16

/-- Device `c`'s accumulator block, held with share `q`, contents `f`. -/
def accP (c : Dev nD) (s : Fin 2) (r n : ℕ) (q : PosShare TreeShare) (f : Full F) : sProp 𝕄 :=
  ((c : Thread nD τ).loc cc0_scratch0) ↦[blk s r n]{q} f

instance accP_storable (c : Dev nD) (s : Fin 2) (r n : ℕ) (q : PosShare TreeShare) (f : Full F) :
    BI.Storable (upEmb : UEmb _ 𝕄) (accP c s r n q f) := by unfold accP; infer_instance

theorem accP_congr (c : Dev nD) (s : Fin 2) (r n : ℕ) (q : PosShare TreeShare) {f g : Full F} (h : ∀ i ∈ blk s r n, f i = g i) :
    (accP c s r n q f : sProp 𝕄) = accP c s r n q g := pointsTo_congr h

/-- Two blocks, one below the other. -/
theorem accP_append (c : Dev nD) (s : Fin 2) (r n n' : ℕ) (q : PosShare TreeShare) (f : Full F) :
    (accP c s r (n + n') q f : sProp 𝕄) = iprop(accP c s r n q f ∗ accP c s (r + n) n' q f) := by
  have hd : Disjoint (blk s r n) (blk s (r + n) n') := by
    rw [Finset.disjoint_left]; intro i hi hj; rw [mem_blk] at hi hj; omega
  have hu : blk s r (n + n') = blk s r n ∪ blk s (r + n) n' := by
    ext i; rw [Finset.mem_union, mem_blk, mem_blk, mem_blk]; omega
  unfold accP
  rw [hu]
  have h := pointsTo_union (Val := Elt F) (Ix := Unit) (Name := ℕ) (U := UU) (Lvl := ℕ) (ℓ := (c : Thread nD τ).loc cc0_scratch0) (q := q) (f := f) hd
  exact h.1.antisymm h.2

theorem accP_list (c : Dev nD) (s : Fin 2) (r n : ℕ) (q : PosShare TreeShare) (f : Full F) :
    (accP c s r (4 * n) q f : sProp 𝕄) = bigSepL [r, r + n, r + 2 * n, r + 3 * n] (fun r' => accP c s r' n q f) := by
  rw [show 4 * n = n + (n + (n + n)) by omega, accP_append, accP_append, accP_append, show r + n + n = r + 2 * n by omega,
    show r + 2 * n + n = r + 3 * n by omega]
  rfl

theorem kq_pos : ∀ p : Fin 3, 0 < kq p := by decide

/-- Before phase `p` (the first or the second) a device's block is four blocks: the one it keeps and the ones that its
    three peers keep. -/
theorem accP_quarters (e c : Dev nD) (s : Fin 2) (p : Fin 3) (hp : p ≠ 2) (q : PosShare TreeShare) (f : Full F) :
    (accP e s (lo c s p) (wq p) q f : sProp 𝕄)
      = iprop(accP e s (hi c s p) (kq p) q f ∗ accP e s (hi (peer c s p 0) s p) (kq p) q f
          ∗ accP e s (hi (peer c s p 1) s p) (kq p) q f ∗ accP e s (hi (peer c s p 2) s p) (kq p) q f) := by
  have hn : [lo c s p, lo c s p + kq p, lo c s p + 2 * kq p, lo c s p + 3 * kq p].Nodup := by
    have := kq_pos p
    simp only [List.nodup_cons, List.mem_cons, List.not_mem_nil, or_false, not_false_eq_true, List.nodup_nil, and_true, not_or]
    omega
  rw [wq_eq p hp, accP_list, ← TalkSites.bigSepL_perm (quarters c s p hp) ((quarters c s p hp).nodup_iff.mpr hn)]
  rfl

/-- Before the last phase a device's block is two blocks. -/
theorem accP_halves (e c : Dev nD) (s : Fin 2) (q : PosShare TreeShare) (f : Full F) :
    (accP e s (lo c s 2) (wq 2) q f : sProp 𝕄)
      = iprop(accP e s (hi c s 2) (kq 2) q f ∗ accP e s (hi (peer c s 2 0) s 2) (kq 2) q f) := by
  have hn : [lo c s 2, lo c s 2 + kq 2].Nodup := by
    have := kq_pos 2
    simp only [List.nodup_cons, List.mem_cons, List.not_mem_nil, or_false, not_false_eq_true, List.nodup_nil, and_true]
    omega
  have h : (accP e s (lo c s 2) (wq 2) q f : sProp 𝕄) = bigSepL [lo c s 2, lo c s 2 + kq 2] (fun r' => accP e s r' (kq 2) q f) :=
    accP_append e s (lo c s 2) 32 32 q f
  rw [h, ← TalkSites.bigSepL_perm (halves c s) ((halves c s).nodup_iff.mpr hn)]
  rfl

/-- The whole accumulator is its two streams. -/
theorem accP_whole (c : Dev nD) (q : PosShare TreeShare) (f : Full F) :
    ((((c : Thread nD τ).loc cc0_scratch0) ↦{q} f) : sProp 𝕄) = iprop(accP c 0 0 1024 q f ∗ accP c 1 0 1024 q f) := by
  have hd : Disjoint (blk 0 0 1024) (blk 1 0 1024) := by
    rw [Finset.disjoint_left]; intro i hi hj; rw [mem_blk] at hi hj
    simp only [col] at hi hj; omega
  have hu : (Finset.univ : Finset S1024x1024.Idx) = blk 0 0 1024 ∪ blk 1 0 1024 := by
    ext i; rw [Finset.mem_union, mem_blk, mem_blk]
    have h0 : (i 0).val < 1024 := (i 0).isLt
    have h1 : (i 1).val < 1024 := (i 1).isLt
    simp only [col, Finset.mem_univ, true_iff]; omega
  unfold accP
  show (((c : Thread nD τ).loc cc0_scratch0) ↦[(Finset.univ : Finset S1024x1024.Idx)]{q} f : sProp 𝕄) = _
  rw [hu]
  have h := pointsTo_union (Val := Elt F) (Ix := Unit) (Name := ℕ) (U := UU) (Lvl := ℕ) (ℓ := (c : Thread nD τ).loc cc0_scratch0) (q := q) (f := f) hd
  exact h.1.antisymm h.2

/-! ## The printed slices are blocks -/

theorem srcM_set (c : Dev nD) (s : Fin 2) (p d : Fin 3) : (srcM c s p d).view.set = blk s (hi (peer c s p d) s p) (kq p) :=
  (View.set_slice_whole _ _).trans (unit_set_eq _ (srcOff_eq c s p d))
theorem segM_set (c : Dev nD) (s : Fin 2) (p : Fin 3) : (segM c s p).view.set = blk s (hi c s p) (kq p) :=
  (View.set_slice_whole _ _).trans (unit_set_eq _ (segOff_eq c s p))
theorem keepR_set (c : Dev nD) (s : Fin 2) (p : Fin 3) : (keepR c s p).set = blk s (hi c s p) (kq p) :=
  unit_set_eq _ (keepOff_eq c s p)

/-- Reading equal rectangles gives equal values. -/
theorem read_unit_congr {off off' : Fin 2 → ℕ} {q : ℕ} (h h') (e : off = off') (f : Full F) :
    ((accM).slice (Rect.unit (s := S1024x1024) off (Sq q).size h) (fun _ => rfl)).view.read (Elt F) f
      = ((accM).slice (Rect.unit (s := S1024x1024) off' (Sq q).size h') (fun _ => rfl)).view.read (Elt F) f := by
  subst e; rfl

/-- The block that device `c` keeps after phase `p`, as a slice. -/
abbrev keepM (c : Dev nD) (s : Fin 2) (p : Fin 3) : Memref sig .tc .vmem (Sq (kq p)) .bf16 := (accM).slice (keepR c s p) (fun _ => rfl)

/-- A peer's outgoing piece for `c` lies where `c`'s kept block lies. -/
theorem read_src_peer (c : Dev nD) (s : Fin 2) (p d : Fin 3) (f : Full F) :
    (srcM (peer c s p d) s p d).view.read (Elt F) f = (keepM c s p).view.read (Elt F) f :=
  read_unit_congr _ _ (by rw [srcOff_eq, keepOff_eq, peer_peer]) f

/-! ## The sums -/

/-- A kept block and three pieces, added as the kernel adds them. -/
def nxt4 (fa f1 f2 f3 : Full F) : Full F := addf fa (addf (addf f1 f2) f3)
/-- A kept block and one piece, added. -/
def nxt2 (fa f1 : Full F) : Full F := addf fa f1

theorem sum4_read (c : Dev nD) (s : Fin 2) (p : Fin 3) (hp : p ≠ 2) (fa f1 f2 f3 : Full F) :
    sum4 s p ((keepM c s p).view.read (Elt F) f1) ((keepM c s p).view.read (Elt F) f2) ((keepM c s p).view.read (Elt F) f3)
      ((keepM c s p).view.read (Elt F) fa) = (keepM c s p).view.read (Elt F) (nxt4 fa f1 f2 f3) := by
  match s, p with
  | 0, 0 => show k0_pay5 _ _ _ _ = _; unfold k0_pay5; exact (shapeCast_self (addf _ (addf (addf _ _) _)) _).trans rfl
  | 1, 0 => show k0_pay6 _ _ _ _ = _; unfold k0_pay6; exact (shapeCast_self (addf _ (addf (addf _ _) _)) _).trans rfl
  | 0, 1 => show k0_pay7 _ _ _ _ = _; unfold k0_pay7; exact (shapeCast_self (addf _ (addf (addf _ _) _)) _).trans rfl
  | 1, 1 => show k0_pay8 _ _ _ _ = _; unfold k0_pay8; exact (shapeCast_self (addf _ (addf (addf _ _) _)) _).trans rfl
  | 0, 2 => exact absurd rfl hp
  | 1, 2 => exact absurd rfl hp

theorem sum2_read (c : Dev nD) (s : Fin 2) (fa f1 : Full F) :
    sum2 s ((keepM c s 2).view.read (Elt F) f1) ((keepM c s 2).view.read (Elt F) fa) = (keepM c s 2).view.read (Elt F) (nxt2 fa f1) := by
  match s with
  | 0 => show k0_pay9 _ _ = _; unfold k0_pay9; exact (shapeCast_self (addf _ _) _).trans rfl
  | 1 => show k0_pay10 _ _ = _; unfold k0_pay10; exact (shapeCast_self (addf _ _) _).trans rfl

/-- Overwriting a block by what another contents reads there gives that contents there. -/
theorem write_read_on {off : Fin 2 → ℕ} {q : ℕ} (h) (f g : Full F) (i : S1024x1024.Idx)
    (hi : i ∈ (Rect.unit (s := S1024x1024) off (Sq q).size h).set) :
    ((accM).access (Rect.unit (s := S1024x1024) off (Sq q).size h)).write (Elt F) f
      (((accM).slice (Rect.unit (s := S1024x1024) off (Sq q).size h) (fun _ => rfl)).view.read (Elt F) g) Finset.univ i = g i := by
  rw [← View.set_slice_whole cc0_scratch0] at hi
  obtain ⟨j, -, rfl⟩ := Finset.mem_map.mp hi
  exact View.write_emb_of_mem _ _ (Finset.mem_univ j)

/-! ## The contents, phase by phase

`X s c` is what device `c` has computed for stream `s` before the exchanges. -/

/-- One summing phase with three peers. -/
def step4 (p : Fin 3) (X : Fin 2 → Dev nD → Full F) : Fin 2 → Dev nD → Full F := fun s c =>
  nxt4 (X s c) (X s (peer c s p 0)) (X s (peer c s p 1)) (X s (peer c s p 2))
/-- The last summing phase, with one peer. -/
def step2 (X : Fin 2 → Dev nD → Full F) : Fin 2 → Dev nD → Full F := fun s c => nxt2 (X s c) (X s (peer c s 2 0))

/-- What device `c` holds for stream `s` before phase `p`. -/
def bef (X : Fin 2 → Dev nD → Full F) : Fin 3 → Fin 2 → Dev nD → Full F
  | 0 => X | 1 => step4 0 X | 2 => step4 1 (step4 0 X)
/-- What device `c` holds for stream `s` after phase `p`. -/
def aft (X : Fin 2 → Dev nD → Full F) : Fin 3 → Fin 2 → Dev nD → Full F
  | 0 => step4 0 X | 1 => step4 1 (step4 0 X) | 2 => step2 (step4 1 (step4 0 X))

theorem aft_eq (X : Fin 2 → Dev nD → Full F) (p : Fin 3) (hp : p ≠ 2) (s : Fin 2) (c : Dev nD) :
    aft X p s c = nxt4 (bef X p s c) (bef X p s (peer c s p 0)) (bef X p s (peer c s p 1)) (bef X p s (peer c s p 2)) := by
  match p with
  | 0 => rfl
  | 1 => rfl
  | 2 => exact absurd rfl hp

/-- What every device holds in the end: each block as its owner has summed it. -/
def fin (X : Fin 2 → Dev nD → Full F) : Full F := fun i =>
  if (i 1).val < 512 then aft X 2 0 (owner 0 ((i 0).val / 32)) i else aft X 2 1 (owner 1 ((i 0).val / 32)) i

theorem fin_on (X : Fin 2 → Dev nD → Full F) (c : Dev nD) (s : Fin 2) (i : S1024x1024.Idx) (h : i ∈ blk s (hi c s 2) (kq 2)) :
    aft X 2 s c i = fin X i := by
  rw [mem_blk] at h
  obtain ⟨ho, hm⟩ := owner_hi c s
  have hk : (i 0).val / 32 = hi c s 2 / 32 := by
    have := h.1.1; have h2 := h.1.2; simp only [kq] at h2; omega
  unfold fin
  match s, h, ho, hm, hk with
  | 0, h, ho, hm, hk => rw [if_pos (by have := h.2.2; simp only [col] at this; omega), hk, ho]
  | 1, h, ho, hm, hk => rw [if_neg (by have := h.2.1; simp only [col] at this; omega), hk, ho]

end Cert.KernelIdeal.Gen

end
-- ==== Proof.Sched.lean ====
module

public import proofs.«01_k».proof.Proof.Blocks
public import Mathlib.Data.Fintype.Sum

@[expose] public section

/-! # The schedule of the semaphores

Every semaphore of every device is a cell with rounds. The barrier of a device has one round of seven signals; a send
semaphore has one round for every exchange of its lane; a receive semaphore has one round. This file says what each
round brings to the owner of the cell, what each device owes, and in which order cells may be waited for. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The cells of one device: the barrier, the six send lanes, the receive semaphores. (Two receive semaphores of each
    direction and stream are never used; they are cells without rounds.) -/
abbrev Ck : Type := Unit ⊕ (Ln ⊕ Tr)
instance ck_decEq : DecidableEq Ck := inferInstance
instance ck_fintype : Fintype Ck := inferInstance

/-- The kernel's own semaphores. -/
def osem : Ln ⊕ Tr → SemLoc sig
  | .inl L => .dma (sendS L.1 L.2)
  | .inr (false, s, p, d) => .dma (rsS s p d)
  | .inr (true, s, p, d) => .dma (agS s p d)
/-- All semaphores. -/
def csem : Ck → SemLoc sig
  | .inl _ => .reg barS
  | .inr k => osem k

theorem osem_injective : Function.Injective osem := by
  have h0 : ∀ L L' : Ln, osem (.inl L) = osem (.inl L') → L = L' := by decide +kernel
  have h1 : ∀ t t' : Tr, osem (.inr t) = osem (.inr t') → t = t' := by decide +kernel
  have h2 : ∀ (L : Ln) (t : Tr), osem (.inl L) ≠ osem (.inr t) := by decide +kernel
  rintro (L | t) (L' | t') h
  · exact congrArg _ (h0 _ _ h)
  · exact absurd h (h2 _ _)
  · exact absurd h.symm (h2 _ _)
  · exact congrArg _ (h1 _ _ h)
theorem csem_injective : Function.Injective csem := by
  rintro (k | k) (k' | k') h
  · rfl
  · rcases k' with L | ⟨b, s, p, d⟩
    · cases h
    · cases b <;> cases h
  · rcases k with L | ⟨b, s, p, d⟩
    · cases h
    · cases b <;> cases h
  · exact congrArg _ (osem_injective h)

/-- Which cell a semaphore is. -/
def decode (sm : SemLoc sig) : Option Ck := Function.partialInv csem sm
theorem decode_csem (k : Ck) : decode (csem k) = some k := Function.partialInv_left csem_injective k

abbrev kcell (ck : Dev nD × Ck) : GSem nD τ sig := ((ck.1 : Thread nD τ), csem ck.2)
abbrev barCell (c : Dev nD) : GSem nD τ sig := kcell (c, .inl ())
abbrev laneCell (c : Dev nD) (L : Ln) : GSem nD τ sig := kcell (c, .inr (.inl L))
abbrev recvCell (c : Dev nD) (t : Tr) : GSem nD τ sig := kcell (c, .inr (.inr t))

theorem kcell_injective : Function.Injective (kcell : Dev nD × Ck → GSem nD τ sig) := by
  rintro ⟨c, k⟩ ⟨c', k'⟩ h
  have h1 : c = c' := congrArg (fun g : GSem nD τ sig => g.1.1) h
  have h2 : k = k' := csem_injective (congrArg Prod.snd h)
  rw [h1, h2]

/-! ## Amounts -/

/-- The credit of an exchange of phase `p`. -/
def cr (p : Fin 3) : ℕ := (stM 0 p 0).view.dmaCredit
theorem cr_pos (p : Fin 3) : 0 < cr p := View.dmaCredit_pos _ (sq_pos p)
theorem cr_st (s : Fin 2) (p d : Fin 3) : (stM s p d).view.dmaCredit = cr p := rfl
theorem cr_src (c : Dev nD) (s : Fin 2) (p d : Fin 3) : (srcM c s p d).view.dmaCredit = cr p := rfl
theorem cr_seg (c : Dev nD) (s : Fin 2) (p : Fin 3) : (segM c s p).view.dmaCredit = cr p := rfl

/-! ## What the cells hand over -/

/-- The landing place of a scattering exchange on device `e`, whatever it holds. -/
def stAny (e : Dev nD) (s : Fin 2) (p d : Fin 3) : sProp 𝕄 :=
  iprop(∃ f, (stM s p d).view.loc (e : Thread nD τ) ↦[(stM s p d).view.set]{fullShare} f)
/-- The landing place holding `v`. -/
def stVal (e : Dev nD) (s : Fin 2) (p d : Fin 3) (v : Vec F (Sq (kq p)) .bf16) : sProp 𝕄 :=
  iprop(∃ f, ⌜(stM s p d).view.read (Elt F) f = v⌝ ∗ ((stM s p d).view.loc (e : Thread nD τ) ↦[(stM s p d).view.set]{fullShare} f))

instance stAny_storable (e : Dev nD) (s : Fin 2) (p d : Fin 3) : BI.Storable (upEmb : UEmb _ 𝕄) (stAny e s p d) := by unfold stAny; infer_instance
instance stVal_storable (e : Dev nD) (s : Fin 2) (p d : Fin 3) (v : Vec F (Sq (kq p)) .bf16) : BI.Storable (upEmb : UEmb _ 𝕄) (stVal e s p d v) := by
  unfold stVal; infer_instance

theorem stVal_any (e : Dev nD) (s : Fin 2) (p d : Fin 3) (v : Vec F (Sq (kq p)) .bf16) : (stVal e s p d v : sProp 𝕄) ⊢ stAny e s p d := by
  unfold stVal stAny
  iintro ⟨%f, -, H⟩
  iexists f; iexact H

/-- The peer of an exchange. -/
abbrev dest (c : Dev nD) (t : Tr) : Dev nD := peer c t.2.1 t.2.2.1 t.2.2.2
theorem dest_dest (c : Dev nD) (t : Tr) : dest (dest c t) t = c := peer_peer c _ _ _

/-- The share of its block that a device lends to a gathering exchange. -/
def agShare (p d : Fin 3) : PosShare TreeShare := if p = 2 then fullShare else Ring.shares3 fullShare d

variable (X : Fin 2 → Dev nD → Full F)

/-- What comes with a landed exchange: for a scattering one the piece, and the place in the sender's accumulator from which it
    was taken; for a gathering one the finished block. -/
def recvPay (e : Dev nD) : Tr → sProp 𝕄
  | (false, s, p, d) => iprop(stVal e s p d ((keepM e s p).view.read (Elt F) (bef X p s (peer e s p d)))
      ∗ accP (peer e s p d) s (hi e s p) (kq p) fullShare (bef X p s (peer e s p d)))
  | (true, s, p, d) => accP e s (hi (peer e s p d) s p) (kq p) fullShare (fin X)
/-- What comes back when an exchange has left. -/
def lanePay (e : Dev nD) : Tr → sProp 𝕄
  | (false, _, _, _) => iprop(emp)
  | (true, s, p, d) => accP e s (hi e s p) (kq p) (agShare p d) (fin X)
/-- What the `j`-th signal brings: the sender's landing places for what the receiver will send to it. -/
def barPay (e : Dev nD) (j : Fin 7) : sProp 𝕄 :=
  iprop(stAny (bpeer e j) 0 (bt 0 j).1 (bt 0 j).2 ∗ stAny (bpeer e j) 1 (bt 1 j).1 (bt 1 j).2)

instance recvPay_storable (e : Dev nD) (t : Tr) : BI.Storable (upEmb : UEmb _ 𝕄) (recvPay X e t) := by
  obtain ⟨b, s, p, d⟩ := t; cases b <;> (dsimp only [recvPay]; infer_instance)
instance lanePay_storable (e : Dev nD) (t : Tr) : BI.Storable (upEmb : UEmb _ 𝕄) (lanePay X e t) := by
  obtain ⟨b, s, p, d⟩ := t; cases b <;> (dsimp only [lanePay]; infer_instance)
instance barPay_storable (e : Dev nD) (j : Fin 7) : BI.Storable (upEmb : UEmb _ 𝕄) (barPay (F := F) e j) := by
  unfold barPay; infer_instance

def dutiesK (k : Option Ck) (r : ℕ) : Finset (Fin 7) := match k with
  | some (.inl _) => if r = 0 then Finset.univ else ∅
  | some (.inr (.inl L)) => if r < laneLen L then {0} else ∅
  | some (.inr (.inr t)) => if r = 0 ∧ t ∈ T then {0} else ∅
  | none => ∅
def amountK (k : Option Ck) (r : ℕ) : ℕ := match k with
  | some (.inr (.inl L)) => match user L r with | some t => cr t.2.2.1 | none => 1
  | some (.inr (.inr t)) => cr t.2.2.1
  | _ => 1
def payloadK (e : Dev nD) (k : Option Ck) (r : ℕ) (d : Fin 7) : sProp 𝕄 := match k with
  | some (.inl _) => barPay e d
  | some (.inr (.inl L)) => match user L r with | some t => lanePay X e t | none => iprop(emp)
  | some (.inr (.inr t)) => recvPay X e t
  | none => iprop(emp)

theorem amountK_pos (k : Option Ck) (r : ℕ) : 0 < amountK k r := by
  unfold amountK; (repeat' split) <;> first | exact cr_pos _ | exact Nat.one_pos
instance payloadK_storable (e : Dev nD) (k : Option Ck) (r : ℕ) (d : Fin 7) : BI.Storable (upEmb : UEmb _ 𝕄) (payloadK X e k r d) := by
  unfold payloadK; (repeat' split) <;> infer_instance

def Rd : Rounds.Schedule (GSem nD τ sig) (Fin 7) 𝕄 where
  duties g r := if g.1.2 = .tc then dutiesK (decode g.2) r else ∅
  unitless _ := False
  amount g r _ := amountK (decode g.2) r
  payload g r d := payloadK X g.1.1 (decode g.2) r d
  amount_pos g r _ _ := amountK_pos _ _

instance Rd_payload_storable (g : GSem nD τ sig) (r : ℕ) (d : Fin 7) : BI.Storable (upEmb : UEmb _ 𝕄) ((Rd X).payload g r d) :=
  payloadK_storable X g.1.1 (decode g.2) r d

theorem duties_k (c : Dev nD) (k : Ck) (r : ℕ) : (Rd X).duties (kcell (c, k)) r = dutiesK (some k) r := by
  dsimp only [Rd]; rw [if_pos rfl, decode_csem]
theorem amount_k (c : Dev nD) (k : Ck) (r : ℕ) (d : Fin 7) : (Rd X).amount (kcell (c, k)) r d = amountK (some k) r := by
  dsimp only [Rd]; rw [decode_csem]
theorem payload_k (c : Dev nD) (k : Ck) (r : ℕ) (d : Fin 7) : (Rd X).payload (kcell (c, k)) r d = payloadK X c (some k) r d := by
  dsimp only [Rd]; rw [decode_csem]

/-! ### The barrier -/

theorem duties_bar (c : Dev nD) : (Rd X).duties (barCell c) 0 = Finset.univ := by rw [duties_k]; rfl
theorem amount_bar (c : Dev nD) (j : Fin 7) : (Rd X).amount (barCell c) 0 j = 1 := by rw [amount_k]; rfl
theorem payload_bar (c : Dev nD) (j : Fin 7) : (Rd X).payload (barCell c) 0 j = barPay c j := by rw [payload_k]; rfl
theorem expect_bar (c : Dev nD) : (Rd X).expect (barCell c) 0 = 7 := by
  unfold Schedule.expect Schedule.amountOf
  rw [duties_bar, Finset.sum_congr rfl fun d _ => amount_bar X c d, Finset.sum_const, Finset.card_univ, Fintype.card_fin, smul_eq_mul]
theorem rest_bar (c : Dev nD) : (bigSep ((Rd X).duties (barCell c) 0 \ ∅) fun j => (Rd X).payload (barCell c) 0 j) = bigSep Finset.univ (barPay (F := F) c) := by
  rw [Finset.sdiff_empty, duties_bar]; exact bigSep_congr fun j _ => payload_bar X c j
theorem later_bar (c : Dev nD) : ∀ r, 1 ≤ r → (Rd X).duties (barCell c) r = ∅ := fun r h => by
  rw [duties_k]; exact if_neg (by omega)

/-! ### The lanes -/

theorem duties_lane (c : Dev nD) (t : Tr) (ht : t ∈ T) : (Rd X).duties (laneCell c (lane t)) (rnd t) = {0} := by
  rw [duties_k]; exact if_pos (rnd_lt t ht)
theorem amount_lane (c : Dev nD) (t : Tr) (ht : t ∈ T) (j : Fin 7) : (Rd X).amount (laneCell c (lane t)) (rnd t) j = cr t.2.2.1 := by
  rw [amount_k]; dsimp only [amountK]; rw [user_rnd t ht]
theorem payload_lane (c : Dev nD) (t : Tr) (ht : t ∈ T) (j : Fin 7) : (Rd X).payload (laneCell c (lane t)) (rnd t) j = lanePay X c t := by
  rw [payload_k]; dsimp only [payloadK]; rw [user_rnd t ht]
theorem expect_lane (c : Dev nD) (t : Tr) (ht : t ∈ T) : (Rd X).expect (laneCell c (lane t)) (rnd t) = cr t.2.2.1 := by
  unfold Schedule.expect Schedule.amountOf; rw [duties_lane X c t ht, Finset.sum_singleton, amount_lane X c t ht]
theorem rest_lane (c : Dev nD) (t : Tr) (ht : t ∈ T) :
    (bigSep ((Rd X).duties (laneCell c (lane t)) (rnd t) \ ∅) fun j => (Rd X).payload (laneCell c (lane t)) (rnd t) j) = lanePay X c t := by
  rw [Finset.sdiff_empty, duties_lane X c t ht, bigSep_singleton, payload_lane X c t ht]
theorem later_lane (c : Dev nD) (L : Ln) : ∀ r, laneLen L ≤ r → (Rd X).duties (laneCell c L) r = ∅ := fun r h => by
  rw [duties_k]; exact if_neg (by omega)

/-! ### The receive semaphores -/

theorem duties_recv (c : Dev nD) (t : Tr) (ht : t ∈ T) : (Rd X).duties (recvCell c t) 0 = {0} := by
  rw [duties_k]; exact if_pos ⟨rfl, ht⟩
theorem amount_recv (c : Dev nD) (t : Tr) (j : Fin 7) : (Rd X).amount (recvCell c t) 0 j = cr t.2.2.1 := by rw [amount_k]; rfl
theorem payload_recv (c : Dev nD) (t : Tr) (j : Fin 7) : (Rd X).payload (recvCell c t) 0 j = recvPay X c t := by rw [payload_k]; rfl
theorem expect_recv (c : Dev nD) (t : Tr) (ht : t ∈ T) : (Rd X).expect (recvCell c t) 0 = cr t.2.2.1 := by
  unfold Schedule.expect Schedule.amountOf; rw [duties_recv X c t ht, Finset.sum_singleton, amount_recv]
theorem rest_recv (c : Dev nD) (t : Tr) (ht : t ∈ T) :
    (bigSep ((Rd X).duties (recvCell c t) 0 \ ∅) fun j => (Rd X).payload (recvCell c t) 0 j) = recvPay X c t := by
  rw [Finset.sdiff_empty, duties_recv X c t ht, bigSep_singleton, payload_recv]
theorem later_recv (c : Dev nD) (t : Tr) : ∀ r, 1 ≤ r → (Rd X).duties (recvCell c t) r = ∅ := fun r h => by
  rw [duties_k]; exact if_neg (by omega)
/-- A receive semaphore that no exchange uses has no round. -/
theorem unused_recv (c : Dev nD) (t : Tr) (ht : t ∉ T) : ∀ r, 0 ≤ r → (Rd X).duties (recvCell c t) r = ∅ := fun r _ => by
  rw [duties_k]; exact if_neg fun h => ht h.2

/-! ## Levels -/

def L (g : GSem nD τ sig) : Finset Unit := if g.1.2 = .tc then {()} else ∅
def lvK (k : Option Ck) : ℕ := match k with
  | some (.inl _) => 1
  | some (.inr (.inr t)) => 2 + T.idxOf t
  | _ => 0
/-- The level of a cell: first come the semaphores that no other device pays, then the barrier, then the receive semaphores in the order of
    the exchanges. -/
def lv (g : GSem nD τ sig) (_ : Unit) : ℕ := lvK (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Ck) (u : Unit) : lv (kcell (c, k)) u = lvK (some k) := by unfold lv; rw [decode_csem]

/-! ## What a device owes -/

/-- After `n` exchanges have been started, what is still owed to the peers' receive semaphores. -/
def due (c : Dev nD) (n : ℕ) : CellTallies nD τ sig Unit :=
  ((T.drop n).map fun t => tallyAt (recvCell (dest c t) t) () (cr t.2.2.1)).sum
/-- After `j` signals, what is still owed. -/
def dueB (c : Dev nD) (j : ℕ) : CellTallies nD τ sig Unit :=
  due c 0 + (((List.finRange 7).drop j).map fun i => tallyAt (barCell (bpeer c i)) () 1).sum

theorem T_get {n : ℕ} {t : Tr} (h : T[n]? = some t) : T.drop n = t :: T.drop (n + 1) ∧ T.take (n + 1) = T.take n ++ [t] ∧ t ∈ T ∧ T.idxOf t = n := by
  obtain ⟨hn, rfl⟩ := List.getElem?_eq_some_iff.mp h
  exact ⟨List.drop_eq_getElem_cons hn, (List.take_concat_get' T n hn).symm, List.getElem_mem hn, T_nodup.idxOf_getElem n hn⟩

theorem due_step (c : Dev nD) {n : ℕ} {t : Tr} (h : T[n]? = some t) :
    due c n = due c (n + 1) + tallyAt (recvCell (dest c t) t) () (cr t.2.2.1) := by
  unfold due; rw [(T_get h).1, List.map_cons, List.sum_cons, add_comm]
theorem due_end (c : Dev nD) : due c 28 = 0 := rfl
theorem dueB_end (c : Dev nD) : dueB c 7 = due c 0 := add_zero _
theorem dueB_step (c : Dev nD) (j : Fin 7) : dueB c j.val = dueB c (j.val + 1) + tallyAt (barCell (bpeer c j)) () 1 := by
  unfold dueB
  have h : (List.finRange 7).drop j.val = j :: (List.finRange 7).drop (j.val + 1) := by revert j; decide
  rw [h, List.map_cons, List.sum_cons, add_assoc, add_comm (tallyAt _ _ _)]

theorem sum_pos {A : Type} (l : List A) (f : A → CellTallies nD τ sig Unit) {g : GSem nD τ sig} {u : Unit} (h : 0 < (l.map f).sum g u) :
    ∃ a ∈ l, 0 < f a g u := by
  induction l with
  | nil => exact absurd h (Nat.lt_irrefl 0)
  | cons a l ih =>
    rw [List.map_cons, List.sum_cons, Pi.add_apply, Finsupp.add_apply] at h
    by_cases h0 : 0 < f a g u
    · exact ⟨a, List.mem_cons_self, h0⟩
    · obtain ⟨b, hb, hb'⟩ := ih (by omega)
      exact ⟨b, List.mem_cons_of_mem _ hb, hb'⟩
theorem tally_pos {g g' : GSem nD τ sig} {k : ℕ} {u u' : Unit} (h : 0 < tallyAt g u k g' u') : g' = g := by
  rw [tallyAt_apply] at h
  by_contra hn
  rw [if_neg fun h' => hn h'.1] at h
  exact Nat.lt_irrefl 0 h

theorem due_pos {c : Dev nD} {n : ℕ} {g : GSem nD τ sig} {u : Unit} (h : 0 < due c n g u) : ∃ t ∈ T.drop n, g = recvCell (dest c t) t := by
  obtain ⟨t, ht, h'⟩ := sum_pos _ _ h
  exact ⟨t, ht, tally_pos h'⟩
theorem dueB_pos {c : Dev nD} {n : ℕ} {g : GSem nD τ sig} {u : Unit} (h : 0 < dueB c n g u) :
    (∃ t ∈ T, g = recvCell (dest c t) t) ∨ ∃ j, g = barCell (bpeer c j) := by
  unfold dueB at h
  rw [Pi.add_apply, Finsupp.add_apply] at h
  by_cases h0 : 0 < due c 0 g u
  · exact .inl (due_pos h0)
  · rw [Nat.eq_zero_of_not_pos h0, Nat.zero_add] at h
    obtain ⟨j, -, h'⟩ := sum_pos _ _ h
    exact .inr ⟨j, tally_pos h'⟩

theorem drop_idx (n : ℕ) (hn : n ≤ 28) : ∀ t ∈ T.drop n, n ≤ T.idxOf t := by
  have h : ∀ n : Fin 29, ∀ t ∈ T.drop n.val, n.val ≤ T.idxOf t := by decide +kernel
  exact h ⟨n, by omega⟩

/-- A wait on one's own cell of a level below everything owed. -/
theorem mayWait_due (c : Dev nD) (k : Ck) (n : ℕ) (hn : n ≤ 28) (b : ℕ) (hb : lvK (some k) ≤ b) (hbn : b < 2 + n) :
    (levAts L lv : sProp 𝕄) ⊢ MayWait (c : Thread nD τ) (csem k) () (due c n) :=
  MayOwe.of_cut (L := L) (lev := lv) b (fun p hp => by rw [Finset.mem_singleton.mp hp, L_tc]; exact Finset.mem_singleton_self _)
    (fun g u hg => by obtain ⟨t, -, rfl⟩ := due_pos hg; rw [L_tc]; exact Finset.mem_singleton_self _)
    (fun p hp => by rw [Finset.mem_singleton.mp hp]; exact (lv_k c k ()).le.trans hb)
    (fun g u hg => by
      obtain ⟨t, ht, rfl⟩ := due_pos hg
      rw [lv_k]; have := drop_idx n hn t ht; dsimp only [lvK]; omega)

/-- A wait on a semaphore of level nothing, whatever is owed. -/
theorem mayWait_stage (c : Dev nD) (sm : SemLoc sig) (hsm : decode sm = none) (O : CellTallies nD τ sig Unit) (hO : O = dueB c 0 ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · rcases dueB_pos hg with ⟨t, -, rfl⟩ | ⟨j, rfl⟩ <;> (rw [L_tc]; exact Finset.mem_singleton_self _)
    · rw [Finset.mem_singleton.mp hp]; unfold lv; dsimp only; rw [hsm]; exact le_rfl
    · rcases dueB_pos hg with ⟨t, -, rfl⟩ | ⟨j, rfl⟩ <;> (rw [lv_k]; dsimp only [lvK]; omega)
  · rw [MayWait_zero]; iintro -; iempintro

end Cert.KernelIdeal.Gen

end
-- ==== Proof.Rules.lean ====
module

public import proofs.«01_k».proof.Proof.Sched

@[expose] public section

/-! # The single steps

A device goes through the exchanges in a fixed order: it has started `n` of them, `m` have come to it, and `l` of its own have
left. The bundle of these three numbers holds everything else that the steps need. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev wpc (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q

variable (X : Fin 2 → Dev nD → Full F) (K : Dev nD × Ck → ℕ)

/-! ## The bundle -/

/-- Every cell's invariant, and that its first round is reached. -/
def recs : sProp 𝕄 := bigSep Finset.univ fun ck : Dev nD × Ck => iprop(cellInv ER (Rd X) (K ck) (kcell ck) ∗ reached ER (kcell ck) 0)
instance recs_persistent : BI.Persistent (recs X K) := by unfold recs; infer_instance

theorem recs_at (ck : Dev nD × Ck) : recs X K ⊢ iprop(cellInv ER (Rd X) (K ck) (kcell ck) ∗ reached ER (kcell ck) 0) :=
  bigSep_elim (Finset.mem_univ ck)
theorem inv_at (ck : Dev nD × Ck) : recs X K ⊢ cellInv ER (Rd X) (K ck) (kcell ck) := by
  iintro H; ihave H := (recs_at X K ck) $$ H; icases H with ⟨H, -⟩; iexact H
theorem reached_at (ck : Dev nD × Ck) : recs X K ⊢ reached ER (kcell ck) 0 := by
  iintro H; ihave H := (recs_at X K ck) $$ H; icases H with ⟨-, H⟩; iexact H

/-- The landing place that an exchange needs (a gathering exchange lands in the accumulator instead). -/
def landP (c : Dev nD) : Tr → sProp 𝕄
  | (false, s, p, d) => stAny (peer c s p d) s p d
  | (true, _, _, _) => iprop(emp)
/-- What an exchange still to be started needs. -/
def kit (c : Dev nD) (t : Tr) : sProp 𝕄 :=
  iprop(dutyTok ER (laneCell c (lane t)) (rnd t) 0 ∗ dutyTok ER (recvCell (dest c t) t) 0 0 ∗ landP c t)
/-- What an exchange still to come needs. -/
def inn (c : Dev nD) (t : Tr) : sProp 𝕄 :=
  iprop(atPos ER (recvCell c t) 0 ∅ 0 ∗ cred (tallyAt (recvCell c t) () (cr t.2.2.1)))
/-- What an exchange still to leave needs. -/
def outc (c : Dev nD) (t : Tr) : sProp 𝕄 := cred (tallyAt (laneCell c (lane t)) () (cr t.2.2.1))
/-- A lane after `l` exchanges have left. -/
def laneAt (c : Dev nD) (l : ℕ) (L : Ln) : sProp 𝕄 :=
  iprop(atPos ER (laneCell c L) (pos L l) ∅ 0 ∗ reached ER (laneCell c L) (pos L l))

/-- `n` exchanges started, `m` come, `l` left. -/
def bundle (c : Dev nD) (n m l : ℕ) : sProp 𝕄 :=
  iprop(recs X K ∗ levAts L lv ∗ (∃ W, owes (c : Thread nD τ) (due c n) W) ∗ bigSepL (T.drop n) (kit c) ∗ bigSepL (T.drop m) (inn c)
    ∗ bigSepL (T.take m) (fun t => semVal (recvCell c t) 0) ∗ bigSepL ((T.take n).drop l) (outc c) ∗ bigSep Finset.univ (laneAt c l))

/-! ## Lists and lanes -/

theorem take_drop_snoc {n l : ℕ} {t : Tr} (h : T[n]? = some t) (hl : l ≤ n) : (T.take (n + 1)).drop l = (T.take n).drop l ++ [t] := by
  have hn : n < T.length := (List.getElem?_eq_some_iff.mp h).1
  rw [(T_get h).2.1, List.drop_append_of_le_length (by rw [List.length_take]; omega)]
theorem take_drop_cons {n l : ℕ} {t : Tr} (h : T[l]? = some t) (hl : l < n) : (T.take n).drop l = t :: (T.take n).drop (l + 1) := by
  have h' : (T.take n)[l]? = some t := by rw [List.getElem?_take_of_lt hl]; exact h
  obtain ⟨hn, h''⟩ := List.getElem?_eq_some_iff.mp h'
  rw [List.drop_eq_getElem_cons hn, h'']

theorem rnd_get {l : ℕ} {t : Tr} (h : T[l]? = some t) : rnd t = pos (lane t) l := by unfold rnd; rw [(T_get h).2.2.2]
theorem pos_step {l : ℕ} {t : Tr} (h : T[l]? = some t) : pos (lane t) (l + 1) = pos (lane t) l + 1 := by
  unfold pos; rw [(T_get h).2.1, List.countP_append, List.countP_singleton, if_pos (by simp)]
theorem pos_other {l : ℕ} {t : Tr} (h : T[l]? = some t) (L : Ln) (hL : L ≠ lane t) : pos L (l + 1) = pos L l := by
  unfold pos; rw [(T_get h).2.1, List.countP_append, List.countP_singleton, if_neg (by simpa using hL.symm), Nat.add_zero]

theorem lanes_at (c : Dev nD) (l : ℕ) (L : Ln) :
    (bigSep Finset.univ (laneAt (F := F) c l)) = iprop(laneAt c l L ∗ bigSep (Finset.univ.erase L) (laneAt c l)) :=
  bigSep_erase (Finset.mem_univ L)
theorem lanes_step (c : Dev nD) {l : ℕ} {t : Tr} (h : T[l]? = some t) :
    (bigSep (Finset.univ.erase (lane t)) (laneAt (F := F) c l)) = bigSep (Finset.univ.erase (lane t)) (laneAt c (l + 1)) :=
  bigSep_congr fun L hL => by unfold laneAt; rw [pos_other h L (Finset.ne_of_mem_erase hL)]

/-! ## Starting an exchange -/

theorem accP_src (c : Dev nD) (s : Fin 2) (p d : Fin 3) (q : PosShare TreeShare) (f : Full F) :
    (accP c s (hi (peer c s p d) s p) (kq p) q f : sProp 𝕄) = ((srcM c s p d).view.loc (c : Thread nD τ) ↦[(srcM c s p d).view.set]{q} f) := by
  unfold accP; rw [srcM_set]
theorem accP_seg (c e : Dev nD) (s : Fin 2) (p : Fin 3) (q : PosShare TreeShare) (f : Full F) :
    (accP e s (hi c s p) (kq p) q f : sProp 𝕄) = ((segM c s p).view.loc (e : Thread nD τ) ↦[(segM c s p).view.set]{q} f) := by
  unfold accP; rw [segM_set]

theorem pay_rs (c e : Dev nD) (s : Fin 2) (p d : Fin 3) (he : e = peer c s p d) (fd : Full F) (ht : (false, s, p, d) ∈ T) :
    iprop(((stM s p d).view.loc (e : Thread nD τ) ↦[(stM s p d).view.set]{fullShare}
          ((stM s p d).view.write (Elt F) fd ((srcM c s p d).view.read (Elt F) (bef X p s c)) Finset.univ))
        ∗ ((srcM c s p d).view.loc (c : Thread nD τ) ↦[(srcM c s p d).view.set]{fullShare} (bef X p s c)))
      ⊢ (Rd X).payload (recvCell e (false, s, p, d)) 0 0 := by
  subst he
  rw [payload_recv]
  dsimp only [recvPay]
  rw [← read_src_peer, peer_peer, ← accP_src]
  unfold stVal
  iintro ⟨H, H'⟩
  isplitl [H]
  · iexists ((stM s p d).view.write (Elt F) fd ((srcM c s p d).view.read (Elt F) (bef X p s c)) Finset.univ)
    isplitr; · ipureintro; exact View.read_write_univ _ _
    iexact H
  iexact H'

theorem pay_ag (c e : Dev nD) (s : Fin 2) (p d : Fin 3) (he : e = peer c s p d) (fd : Full F) (ht : (true, s, p, d) ∈ T) :
    ((segM c s p).view.loc (e : Thread nD τ) ↦[(segM c s p).view.set]{fullShare}
          ((segM c s p).view.write (Elt F) fd ((segM c s p).view.read (Elt F) (fin X)) Finset.univ))
      ⊢ (Rd X).payload (recvCell e (true, s, p, d)) 0 0 := by
  subst he
  rw [payload_recv]
  dsimp only [recvPay]
  rw [peer_peer, ← accP_seg]
  exact Entails.of_eq (accP_congr _ _ _ _ _ fun i hi => write_read_on (segOff_inb c s p) fd (fin X) i (by
    rw [unit_set_eq _ (segOff_eq c s p)]; exact hi))

theorem outc_eq (c : Dev nD) (b : Bool) (s : Fin 2) (p d : Fin 3) : (outc c (b, s, p, d) : sProp 𝕄) = cred (tallyAt (laneCell c (s, d)) () (cr p)) := rfl
theorem kit_rs (c : Dev nD) (s : Fin 2) (p d : Fin 3) : (kit c (false, s, p, d) : sProp 𝕄)
    = iprop(dutyTok ER (laneCell c (s, d)) (rnd (false, s, p, d)) 0 ∗ dutyTok ER (recvCell (peer c s p d) (false, s, p, d)) 0 0
        ∗ ∃ f, (stM s p d).view.loc ((peer c s p d : Dev nD) : Thread nD τ) ↦[(stM s p d).view.set]{fullShare} f) := rfl
theorem kit_ag (c : Dev nD) (s : Fin 2) (p d : Fin 3) : (kit c (true, s, p, d) : sProp 𝕄)
    = iprop(dutyTok ER (laneCell c (s, d)) (rnd (true, s, p, d)) 0 ∗ dutyTok ER (recvCell (peer c s p d) (true, s, p, d)) 0 0 ∗ emp) := rfl
theorem laneAt_eq (c : Dev nD) (l : ℕ) (L : Ln) : (laneAt c l L : sProp 𝕄)
    = iprop(atPos ER (laneCell c L) (pos L l) ∅ 0 ∗ reached ER (laneCell c L) (pos L l)) := rfl
theorem rsSend_op (c : Dev nD) (s : Fin 2) (p d : Fin 3) : rsSend F c s p d
    = .op (.enqueueDma (srcM c s p d) (.remote (Dev.tc (rsDev c s p d)) (stM s p d) (.dma (sendS s d)) rfl) (.dma (rsS s p d))
        (srcM_exact c s p d) (stM_exact s p d) ⟨⟨rfl, Or.inl rfl⟩, trivial⟩) .ret := rfl
theorem agSend_op (c : Dev nD) (s : Fin 2) (p d : Fin 3) : agSend F c s p d
    = .op (.enqueueDma (segM c s p) (.remote (Dev.tc (agDev c s p d)) (segM c s p) (.dma (sendS s d)) rfl) (.dma (agS s p d))
        (segM_exact c s p) (segM_exact c s p) ⟨⟨rfl, Or.inl rfl⟩, trivial⟩) .ret := rfl

theorem wp_rs (c e : Dev nD) (s : Fin 2) (p d : Fin 3) (he : e = peer c s p d) (ht : (false, s, p, d) ∈ T) (κ₁ κ₂ : ℕ) (n : ℕ) (hT : T[n]? = some (false, s, p, d))
    (fd : Full F) (W : Waits sig Unit) (Q : PUnit → sProp 𝕄) {hsc} {hsrc} {hdst} {hsem} :
    iprop(cellInv ER (Rd X) κ₁ (laneCell c (s, d)) ∗ cellInv ER (Rd X) κ₂ (recvCell e (false, s, p, d))
        ∗ ((srcM c s p d).view.loc (c : Thread nD τ) ↦[(srcM c s p d).view.set]{fullShare} (bef X p s c))
        ∗ ((stM s p d).view.loc (e : Thread nD τ) ↦[(stM s p d).view.set]{fullShare} fd)
        ∗ owes (c : Thread nD τ) (due c n) W
        ∗ dutyTok ER (laneCell c (s, d)) (rnd (false, s, p, d)) 0 ∗ reached ER (laneCell c (s, d)) (rnd (false, s, p, d))
        ∗ dutyTok ER (recvCell e (false, s, p, d)) 0 0 ∗ reached ER (recvCell e (false, s, p, d)) 0)
      ⊢ iprop(((cred (tallyAt (laneCell c (s, d)) () (cr p)) ∗ owes (c : Thread nD τ) (due c (n + 1)) W) -∗ wpc c (.ret ⟨⟩) Q)
          -∗ wpc c (.op (.enqueueDma (srcM c s p d) (.remote (Dev.tc e) (stM s p d) (.dma (sendS s d)) hsc) (.dma (rsS s p d)) hsrc hdst hsem) .ret) Q) := by
  have h1 : (0 : Fin 7) ∈ (Rd X).duties (laneCell c (s, d)) (rnd (false, s, p, d)) :=
    (Finset.ext_iff.mp (duties_lane X c (false, s, p, d) ht) 0).mpr (Finset.mem_singleton_self _)
  have h2 : (0 : Fin 7) ∈ (Rd X).duties (recvCell e (false, s, p, d)) 0 := by rw [duties_recv X e _ ht]; exact Finset.mem_singleton_self _
  have h3 : (Rd X).amount (laneCell c (s, d)) (rnd (false, s, p, d)) 0 = cr p := amount_lane X c _ ht 0
  have h4 : (Rd X).amount (recvCell e (false, s, p, d)) 0 0 = cr p := amount_recv X e _ 0
  have h5 : due c n = due c (n + 1) + tallyAt (recvCell e (false, s, p, d)) () (cr p) := by rw [he]; exact due_step c hT
  have h6 : (emp : sProp 𝕄) ⊢ (Rd X).payload (laneCell c (s, d)) (rnd (false, s, p, d)) 0 := Entails.of_eq (payload_lane X c _ ht 0).symm
  have h0 : (stM s p d).view.amount (.dma (rsS s p d)) = cr p := cr_st s p d
  have h7 : τ.routes (c : Thread nD τ) (e : Thread nD τ) = true := by routes
  exact Rounds.wp_send_landing_pointsTo 𝒱₀ ER (Rd X) (c : Thread nD τ) none h1 h2 () () (cr p) h0 h3 h4 (due c (n + 1)) h5 h6 (pay_rs X c e s p d he fd ht) h7

theorem rsSend_rule (c : Dev nD) (s : Fin 2) (p d : Fin 3) (n m l : ℕ) (hT : T[n]? = some (false, s, p, d)) (hl : l ≤ n)
    (hp : pos (s, d) l = rnd (false, s, p, d)) (Q : PUnit → sProp 𝕄) :
    iprop(bundle X K c n m l ∗ accP c s (hi (peer c s p d) s p) (kq p) fullShare (bef X p s c))
      ⊢ iprop((bundle X K c (n + 1) m l -∗ Q ⟨⟩) -∗ wpc c (rsSend F c s p d) Q) := by
  have he := rsDev_eq c s p d
  have ht : (false, s, p, d) ∈ T := (T_get hT).2.2.1
  unfold bundle
  rw [(T_get hT).1, take_drop_snoc hT hl, bigSepL_append, bigSepL_singleton, bigSepL_cons', lanes_at c l (s, d), kit_rs, laneAt_eq, outc_eq, accP_src, rsSend_op]
  iintro ⟨⟨#HR, #Hlev, ⟨%W, HO⟩, ⟨⟨Ht1, Ht2, ⟨%fd, Hst⟩⟩, Hkit⟩, Hinn, Hsv, Hout, ⟨Hat, #Hre⟩, Hlanes⟩, Hacc⟩ Hk
  iapply (wp_rs X c (rsDev c s p d) s p d he ht (K (c, .inr (.inl (s, d)))) (K (rsDev c s p d, .inr (.inr (false, s, p, d)))) n hT fd W Q) $$ [Hacc Hst HO Ht1 Ht2]
  · isplitr; · iapply (inv_at X K (c, .inr (.inl (s, d)))); iexact HR
    isplitr; · iapply (inv_at X K ((rsDev c s p d), .inr (.inr (false, s, p, d)))); iexact HR
    isplitl [Hacc]; · iexact Hacc
    isplitl [Hst]; · rw [he]; iexact Hst
    isplitl [HO]; · iexact HO
    isplitl [Ht1]; · iexact Ht1
    isplitr; · rw [← hp]; iexact Hre
    isplitl [Ht2]; · rw [he]; iexact Ht2
    iapply (reached_at X K ((rsDev c s p d), .inr (.inr (false, s, p, d)))); iexact HR
  iintro ⟨Hc, HO⟩
  unfold wpc; rw [wp_ret]; imodintro
  iapply Hk
  isplitr; · iexact HR
  isplitr; · iexact Hlev
  isplitl [HO]; · iexists W; iexact HO
  isplitl [Hkit]; · iexact Hkit
  isplitl [Hinn]; · iexact Hinn
  isplitl [Hsv]; · iexact Hsv
  isplitl [Hout Hc]
  · isplitl [Hout]; · iexact Hout
    iexact Hc
  isplitl [Hat]
  · isplitl [Hat]; · iexact Hat
    iexact Hre
  iexact Hlanes

theorem wp_ag (c e : Dev nD) (s : Fin 2) (p d : Fin 3) (he : e = peer c s p d) (ht : (true, s, p, d) ∈ T) (κ₁ κ₂ : ℕ) (n : ℕ) (hT : T[n]? = some (true, s, p, d))
    (fd : Full F) (W : Waits sig Unit) (Q : PUnit → sProp 𝕄) {hsc} {hsrc} {hdst} {hsem} :
    iprop(cellInv ER (Rd X) κ₁ (laneCell c (s, d)) ∗ cellInv ER (Rd X) κ₂ (recvCell e (true, s, p, d))
        ∗ ((segM c s p).view.loc (c : Thread nD τ) ↦[(segM c s p).view.set]{(agShare p d)} (fin X))
        ∗ ((segM c s p).view.loc (e : Thread nD τ) ↦[(segM c s p).view.set]{fullShare} fd)
        ∗ owes (c : Thread nD τ) (due c n) W
        ∗ dutyTok ER (laneCell c (s, d)) (rnd (true, s, p, d)) 0 ∗ reached ER (laneCell c (s, d)) (rnd (true, s, p, d))
        ∗ dutyTok ER (recvCell e (true, s, p, d)) 0 0 ∗ reached ER (recvCell e (true, s, p, d)) 0)
      ⊢ iprop(((cred (tallyAt (laneCell c (s, d)) () (cr p)) ∗ owes (c : Thread nD τ) (due c (n + 1)) W) -∗ wpc c (.ret ⟨⟩) Q)
          -∗ wpc c (.op (.enqueueDma (segM c s p) (.remote (Dev.tc e) (segM c s p) (.dma (sendS s d)) hsc) (.dma (agS s p d)) hsrc hdst hsem) .ret) Q) := by
  have h1 : (0 : Fin 7) ∈ (Rd X).duties (laneCell c (s, d)) (rnd (true, s, p, d)) :=
    (Finset.ext_iff.mp (duties_lane X c (true, s, p, d) ht) 0).mpr (Finset.mem_singleton_self _)
  have h2 : (0 : Fin 7) ∈ (Rd X).duties (recvCell e (true, s, p, d)) 0 := by rw [duties_recv X e _ ht]; exact Finset.mem_singleton_self _
  have h3 : (Rd X).amount (laneCell c (s, d)) (rnd (true, s, p, d)) 0 = cr p := amount_lane X c _ ht 0
  have h4 : (Rd X).amount (recvCell e (true, s, p, d)) 0 0 = cr p := amount_recv X e _ 0
  have h5 : due c n = due c (n + 1) + tallyAt (recvCell e (true, s, p, d)) () (cr p) := by rw [he]; exact due_step c hT
  have h6 : ((segM c s p).view.loc (c : Thread nD τ) ↦[(segM c s p).view.set]{agShare p d} (fin X)) ⊢ (Rd X).payload (laneCell c (s, d)) (rnd (true, s, p, d)) 0 :=
    Entails.of_eq ((accP_seg c c s p (agShare p d) (fin X)).symm.trans (payload_lane X c _ ht 0).symm)
  have h0 : (segM c s p).view.amount (.dma (agS s p d)) = cr p := cr_seg c s p
  have h7 : τ.routes (c : Thread nD τ) (e : Thread nD τ) = true := by routes
  exact Rounds.wp_send_pointsTo 𝒱₀ ER (Rd X) (c : Thread nD τ) none h1 h2 () () (cr p) h0 h3 h4 (due c (n + 1)) h5 h6 (pay_ag X c e s p d he fd ht) h7

theorem agSend_rule (c : Dev nD) (s : Fin 2) (p d : Fin 3) (n m l : ℕ) (hT : T[n]? = some (true, s, p, d)) (hl : l ≤ n)
    (hp : pos (s, d) l = rnd (true, s, p, d)) (fd : Full F) (Q : PUnit → sProp 𝕄) :
    iprop(bundle X K c n m l ∗ accP c s (hi c s p) (kq p) (agShare p d) (fin X) ∗ accP (peer c s p d) s (hi c s p) (kq p) fullShare fd)
      ⊢ iprop((bundle X K c (n + 1) m l -∗ Q ⟨⟩) -∗ wpc c (agSend F c s p d) Q) := by
  have he := agDev_eq c s p d
  have ht : (true, s, p, d) ∈ T := (T_get hT).2.2.1
  unfold bundle
  rw [(T_get hT).1, take_drop_snoc hT hl, bigSepL_append, bigSepL_singleton, bigSepL_cons', lanes_at c l (s, d), kit_ag, laneAt_eq, outc_eq, accP_seg, accP_seg, agSend_op]
  iintro ⟨⟨#HR, #Hlev, ⟨%W, HO⟩, ⟨⟨Ht1, Ht2, -⟩, Hkit⟩, Hinn, Hsv, Hout, ⟨Hat, #Hre⟩, Hlanes⟩, Hacc, Hst⟩ Hk
  iapply (wp_ag X c (agDev c s p d) s p d he ht (K (c, .inr (.inl (s, d)))) (K (agDev c s p d, .inr (.inr (true, s, p, d)))) n hT fd W Q) $$ [Hacc Hst HO Ht1 Ht2]
  · isplitr; · iapply (inv_at X K (c, .inr (.inl (s, d)))); iexact HR
    isplitr; · iapply (inv_at X K ((agDev c s p d), .inr (.inr (true, s, p, d)))); iexact HR
    isplitl [Hacc]; · iexact Hacc
    isplitl [Hst]; · rw [he]; iexact Hst
    isplitl [HO]; · iexact HO
    isplitl [Ht1]; · iexact Ht1
    isplitr; · rw [← hp]; iexact Hre
    isplitl [Ht2]; · rw [he]; iexact Ht2
    iapply (reached_at X K ((agDev c s p d), .inr (.inr (true, s, p, d)))); iexact HR
  iintro ⟨Hc, HO⟩
  unfold wpc; rw [wp_ret]; imodintro
  iapply Hk
  isplitr; · iexact HR
  isplitr; · iexact Hlev
  isplitl [HO]; · iexists W; iexact HO
  isplitl [Hkit]; · iexact Hkit
  isplitl [Hinn]; · iexact Hinn
  isplitl [Hsv]; · iexact Hsv
  isplitl [Hout Hc]
  · isplitl [Hout]; · iexact Hout
    iexact Hc
  isplitl [Hat]
  · isplitl [Hat]; · iexact Hat
    iexact Hre
  iexact Hlanes

/-! ## Waiting -/

/-- The next exchange has come. -/
theorem recv_rule (c : Dev nD) (t : Tr) (n m l : ℕ) (hT : T[m]? = some t) (hmn : m < n) (hn : n ≤ 28)
    {w : TpuEff nD τ sig (Elt F) Λ₀ .tc PUnit}
    (N : ℕ) (hN : N = cr t.2.2.1) (hw : ∀ Kt : PUnit → sProp 𝕄, wpE (defs₀ (F := F)) 𝒱₀ (c : Thread nD τ) none Set.univ w Kt
      = waitSpec (c : Thread nD τ) Set.univ (csem (.inr (.inr t))) N Kt) (Q : PUnit → sProp 𝕄) :
    bundle X K c n m l ⊢ iprop((bundle X K c n (m + 1) l ∗ recvPay X c t -∗ Q ⟨⟩) -∗ wpc c (Prog.lift w) Q) := by
  obtain ⟨hd, htk, ht, hix⟩ := T_get hT
  subst hN
  unfold bundle
  rw [show (Prog.lift w : Prog (TpuEff nD τ sig (Elt F) Λ₀ .tc) PUnit) = .op w .ret from rfl]
  rw [hd, htk, bigSepL_append, bigSepL_singleton, bigSepL_cons']
  unfold inn
  iintro ⟨#HR, #Hlev, ⟨%W, HO⟩, Hkit, ⟨⟨Hat, Hc⟩, Hinn⟩, Hsv, Hout, Hlanes⟩ Hk
  iapply (Rounds.wp_wait_rest_token 𝒱₀ ER (Rd X) (c : Thread nD τ) none (κ := K (c, .inr (.inr t))) hw (Set.mem_univ _) () (O := due c n) (W := W)
    (R := 0) (m := 0) (T := ∅) (by rw [Nat.zero_add]; exact (expect_recv X c t ht).symm)) $$ [Hat Hc HO]
  · isplitr; · iapply (inv_at X K (c, .inr (.inr t))); iexact HR
    isplitl [Hc]; · iexact Hc
    isplitl [HO]; · iexact HO
    isplitr; · iapply (mayWait_due c (.inr (.inr t)) n hn (2 + m) (by dsimp only [lvK]; rw [hix]) (by omega)); iexact Hlev
    iexact Hat
  iintro ⟨HO, Hat, -, Hpay⟩
  ihave Hp := (Entails.of_eq (rest_recv X c t ht)) $$ Hpay
  rw [wp_ret]
  imod (Rounds.cell_close ER (Rd X) (Set.mem_univ (K (c, .inr (.inr t)))) (fun h => h) (R := 0 + 1) (later_recv X c t)) $$ [Hat] with Hz
  · isplitr; · iapply (inv_at X K (c, .inr (.inr t))); iexact HR
    iexact Hat
  imodintro
  iapply Hk
  isplitr [Hp]
  · isplitr; · iexact HR
    isplitr; · iexact Hlev
    isplitl [HO]; · iexists _; iexact HO
    isplitl [Hkit]; · iexact Hkit
    isplitl [Hinn]; · iexact Hinn
    isplitl [Hsv Hz]
    · isplitl [Hsv]; · iexact Hsv
      iexact Hz
    isplitl [Hout]; · iexact Hout
    iexact Hlanes
  iexact Hp

/-- The next own exchange has left. -/
theorem sent_rule (c : Dev nD) (t : Tr) (n m l : ℕ) (hT : T[l]? = some t) (hln : l < n) (hn : n ≤ 28)
    {w : TpuEff nD τ sig (Elt F) Λ₀ .tc PUnit}
    (N : ℕ) (hN : N = cr t.2.2.1) (hw : ∀ Kt : PUnit → sProp 𝕄, wpE (defs₀ (F := F)) 𝒱₀ (c : Thread nD τ) none Set.univ w Kt
      = waitSpec (c : Thread nD τ) Set.univ (csem (.inr (.inl (lane t)))) N Kt) (Q : PUnit → sProp 𝕄) :
    bundle X K c n m l ⊢ iprop((bundle X K c n m (l + 1) ∗ lanePay X c t -∗ Q ⟨⟩) -∗ wpc c (Prog.lift w) Q) := by
  have ht : t ∈ T := (T_get hT).2.2.1
  subst hN
  unfold bundle
  rw [show (Prog.lift w : Prog (TpuEff nD τ sig (Elt F) Λ₀ .tc) PUnit) = .op w .ret from rfl]
  rw [take_drop_cons hT hln, bigSepL_cons', lanes_at c l (lane t), lanes_at c (l + 1) (lane t), lanes_step c hT]
  unfold outc laneAt
  rw [pos_step hT, ← rnd_get hT]
  iintro ⟨#HR, #Hlev, ⟨%W, HO⟩, Hkit, Hinn, Hsv, ⟨Hc, Hout⟩, ⟨Hat, -⟩, Hlanes⟩ Hk
  iapply (Rounds.wp_wait_rest_token 𝒱₀ ER (Rd X) (c : Thread nD τ) none (κ := K (c, .inr (.inl (lane t)))) hw (Set.mem_univ _) () (O := due c n) (W := W)
    (R := rnd t) (m := 0) (T := ∅) (by rw [Nat.zero_add]; exact (expect_lane X c t ht).symm)) $$ [Hat Hc HO]
  · isplitr; · iapply (inv_at X K (c, .inr (.inl (lane t)))); iexact HR
    isplitl [Hc]; · iexact Hc
    isplitl [HO]; · iexact HO
    isplitr; · iapply (mayWait_due c (.inr (.inl (lane t))) n hn 0 le_rfl (by omega)); iexact Hlev
    iexact Hat
  iintro ⟨HO, Hat, Hre, Hpay⟩
  ihave Hp := (Entails.of_eq (rest_lane X c t ht)) $$ Hpay
  rw [wp_ret]; imodintro
  iapply Hk
  isplitr [Hp]
  · isplitr; · iexact HR
    isplitr; · iexact Hlev
    isplitl [HO]; · iexists _; iexact HO
    isplitl [Hkit]; · iexact Hkit
    isplitl [Hinn]; · iexact Hinn
    isplitl [Hsv]; · iexact Hsv
    isplitl [Hout]; · iexact Hout
    isplitl [Hat Hre]
    · isplitl [Hat]; · iexact Hat
      iexact Hre
    iexact Hlanes
  iexact Hp

theorem rsWait_rule (c : Dev nD) (s : Fin 2) (p d : Fin 3) (n m l : ℕ) (hT : T[m]? = some (false, s, p, d)) (hmn : m < n) (hn : n ≤ 28) (Q : PUnit → sProp 𝕄) :
    bundle X K c n m l ⊢ iprop((bundle X K c n (m + 1) l ∗ recvPay X c (false, s, p, d) -∗ Q ⟨⟩) -∗ wpc c (rsWait F c s p d) Q) :=
  recv_rule X K c (false, s, p, d) n m l hT hmn hn (w := .waitDma2 (rsS s p d) (srcM c s p d) (stM s p d) (srcM_exact c s p d) (stM_exact s p d))
    _ (cr_st s p d) (fun Kt => wpE_waitDma2_eq 𝒱₀ (c : Thread nD τ) none Set.univ Kt) Q
theorem agRecv_rule (c : Dev nD) (s : Fin 2) (p d : Fin 3) (n m l : ℕ) (hT : T[m]? = some (true, s, p, d)) (hmn : m < n) (hn : n ≤ 28) (Q : PUnit → sProp 𝕄) :
    bundle X K c n m l ⊢ iprop((bundle X K c n (m + 1) l ∗ recvPay X c (true, s, p, d) -∗ Q ⟨⟩) -∗ wpc c (agWaitOn F (agS s p d) c s p) Q) :=
  recv_rule X K c (true, s, p, d) n m l hT hmn hn (w := .waitDma2 (agS s p d) (segM c s p) (segM c s p) (segM_exact c s p) (segM_exact c s p))
    _ (cr_seg c s p) (fun Kt => wpE_waitDma2_eq 𝒱₀ (c : Thread nD τ) none Set.univ Kt) Q
theorem rsDone_rule (c : Dev nD) (s : Fin 2) (p d : Fin 3) (n m l : ℕ) (hT : T[l]? = some (false, s, p, d)) (hln : l < n) (hn : n ≤ 28) (Q : PUnit → sProp 𝕄) :
    bundle X K c n m l ⊢ iprop((bundle X K c n m (l + 1) -∗ Q ⟨⟩) -∗ wpc c (rsDone F c s p d) Q) := by
  iintro H Hk
  iapply (sent_rule X K c (false, s, p, d) n m l hT hln hn (w := .waitDma2 (sendS s d) (stM s p d) (srcM c s p d) (stM_exact s p d) (srcM_exact c s p d))
    _ (cr_src c s p d) (fun Kt => wpE_waitDma2_eq 𝒱₀ (c : Thread nD τ) none Set.univ Kt) Q) $$ H
  iintro ⟨H, -⟩
  iapply Hk; iexact H
theorem agDone_rule (c : Dev nD) (s : Fin 2) (p d : Fin 3) (n m l : ℕ) (hT : T[l]? = some (true, s, p, d)) (hln : l < n) (hn : n ≤ 28) (Q : PUnit → sProp 𝕄) :
    bundle X K c n m l ⊢ iprop((bundle X K c n m (l + 1) ∗ accP c s (hi c s p) (kq p) (agShare p d) (fin X) -∗ Q ⟨⟩) -∗ wpc c (agWaitOn F (sendS s d) c s p) Q) :=
  sent_rule X K c (true, s, p, d) n m l hT hln hn (w := .waitDma2 (sendS s d) (segM c s p) (segM c s p) (segM_exact c s p) (segM_exact c s p))
    _ (cr_seg c s p) (fun Kt => wpE_waitDma2_eq 𝒱₀ (c : Thread nD τ) none Set.univ Kt) Q

end Cert.KernelIdeal.Gen

end
-- ==== Proof.Groups.lean ====
module

public import proofs.«01_k».proof.Proof.Rules

@[expose] public section

/-! # The groups of steps

What a device does for one phase of one stream: start the exchanges, wait for the pieces and add them, send the finished
block on, wait for the finished blocks of the others. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 2 → Dev nD → Full F) (K : Dev nD × Ck → ℕ)

/-! ## Loads and stores -/

theorem ldStage_rule (c : Dev nD) (s : Fin 2) (p d : Fin 3) (v : Vec F (Sq (kq p)) .bf16) (Q : Vec F (Sq (kq p)) .bf16 → sProp 𝕄) :
    stVal c s p d v ⊢ iprop((stVal c s p d v -∗ Q v) -∗ wpc c (ldStage F s p d) Q) := by
  unfold stVal
  rw [show ldStage F s p d = .op (.load stgM (stR s p d).toLoadRect (View.loadsAt_vmem (sq_pos p))) .ret from rfl]
  iintro ⟨%f, %hf, H⟩ Hk
  iapply (wp_load_rect 𝒱₀ (c : Thread nD τ) none Set.univ (m := stgM) (r := stR s p d) (S := (stM s p d).view.set) (fun _ h => h)) $$ H
  iintro H
  rw [wp_ret]; imodintro
  have hf' : (stgM.access (stR s p d)).read (Elt F) f = v := hf
  rw [hf']
  iapply Hk
  iexists f
  isplitr; · ipureintro; exact hf
  iexact H

theorem keep_set (c : Dev nD) (s : Fin 2) (p : Fin 3) : ((accM).access (keepR c s p)).set = blk s (hi c s p) (kq p) :=
  (View.set_slice_whole _ _).trans (keepR_set c s p)

theorem ldKeep_rule (c : Dev nD) (s : Fin 2) (p : Fin 3) (q : PosShare TreeShare) (f : Full F) (Q : Vec F (Sq (kq p)) .bf16 → sProp 𝕄) :
    accP c s (hi c s p) (kq p) q f
      ⊢ iprop((accP c s (hi c s p) (kq p) q f -∗ Q ((keepM c s p).view.read (Elt F) f)) -∗ wpc c (ldKeep F c s p) Q) := by
  unfold accP
  rw [show ldKeep F c s p = .op (.load accM (keepR c s p).toLoadRect (View.loadsAt_vmem (sq_pos p))) .ret from rfl]
  iintro H Hk
  iapply (wp_load_rect 𝒱₀ (c : Thread nD τ) none Set.univ (m := accM) (r := keepR c s p) (S := blk s (hi c s p) (kq p))
    (Finset.subset_of_eq (keep_set c s p))) $$ H
  iintro H
  rw [wp_ret]; imodintro
  iapply Hk; iexact H

theorem stKeep_rule (c : Dev nD) (s : Fin 2) (p : Fin 3) (f g : Full F) (Q : PUnit → sProp 𝕄) :
    accP c s (hi c s p) (kq p) fullShare f
      ⊢ iprop((accP c s (hi c s p) (kq p) fullShare g -∗ Q ⟨⟩) -∗ wpc c (stKeep c s p ((keepM c s p).view.read (Elt F) g)) Q) := by
  have hw : (accP c s (hi c s p) (kq p) fullShare (((accM).access (keepR c s p)).write (Elt F) f ((keepM c s p).view.read (Elt F) g) Finset.univ) : sProp 𝕄)
      = accP c s (hi c s p) (kq p) fullShare g :=
    accP_congr _ _ _ _ _ fun i hi => write_read_on (keepOff_inb c s p) f g i (by rw [keepR_set c s p]; exact hi)
  rw [← hw]
  unfold accP
  iintro H Hk
  iapply (wp_store 𝒱₀ (c : Thread nD τ) none Set.univ (m := accM) (r := keepR c s p) (Mk := Finset.univ) (S := blk s (hi c s p) (kq p))
    (Finset.subset_of_eq (keep_set c s p))) $$ H
  iintro H
  rw [wp_ret]; imodintro
  iapply Hk; iexact H

/-! ## Scattering -/

theorem rsSend4_rule (c : Dev nD) (s : Fin 2) (p : Fin 3) (hp2 : p ≠ 2) (n m l : ℕ) (hT : ∀ d : Fin 3, T[n + d.val]? = some (false, s, p, d)) (hl : l ≤ n)
    (hp : ∀ d, pos (s, d) l = rnd (false, s, p, d)) (Q : PUnit → sProp 𝕄) :
    iprop(bundle X K c n m l ∗ accP c s (lo c s p) (wq p) fullShare (bef X p s c))
      ⊢ iprop((bundle X K c (n + 3) m l ∗ accP c s (hi c s p) (kq p) fullShare (bef X p s c) -∗ Q ⟨⟩) -∗ wpc c (rsSend4 F c s p) Q) := by
  rw [accP_quarters c c s p hp2]
  unfold rsSend4 wpc
  simp only [wp_bind]
  iintro ⟨H, Hk, H0, H1, H2⟩ HQ
  iapply (rsSend_rule X K c s p 0 n m l (hT 0) hl (hp 0) _) $$ [H H0]
  · isplitl [H] <;> iassumption
  iintro H
  iapply (rsSend_rule X K c s p 1 (n + 1) m l (hT 1) (by omega) (hp 1) _) $$ [H H1]
  · isplitl [H] <;> iassumption
  iintro H
  iapply (rsSend_rule X K c s p 2 (n + 2) m l (hT 2) (by omega) (hp 2) _) $$ [H H2]
  · isplitl [H] <;> iassumption
  iintro H
  iapply HQ
  isplitl [H] <;> iassumption

theorem rsSend2_rule (c : Dev nD) (s : Fin 2) (n m l : ℕ) (hT : T[n]? = some (false, s, 2, 0)) (hl : l ≤ n)
    (hp : pos (s, 0) l = rnd (false, s, 2, 0)) (Q : PUnit → sProp 𝕄) :
    iprop(bundle X K c n m l ∗ accP c s (lo c s 2) (wq 2) fullShare (bef X 2 s c))
      ⊢ iprop((bundle X K c (n + 1) m l ∗ accP c s (hi c s 2) (kq 2) fullShare (bef X 2 s c) -∗ Q ⟨⟩) -∗ wpc c (rsSend F c s 2 0) Q) := by
  rw [accP_halves c c s]
  iintro ⟨H, Hk, H0⟩ HQ
  iapply (rsSend_rule X K c s 2 0 n m l hT hl hp _) $$ [H H0]
  · isplitl [H] <;> iassumption
  iintro H
  iapply HQ
  isplitl [H] <;> iassumption

theorem recvPay_rs (c : Dev nD) (s : Fin 2) (p d : Fin 3) : (recvPay X c (false, s, p, d) : sProp 𝕄)
    = iprop(stVal c s p d ((keepM c s p).view.read (Elt F) (bef X p s (peer c s p d))) ∗ accP (peer c s p d) s (hi c s p) (kq p) fullShare (bef X p s (peer c s p d))) := rfl

/-- The place in a peer's accumulator that `c`'s finished block goes to. -/
abbrev room (c : Dev nD) (s : Fin 2) (p d : Fin 3) : sProp 𝕄 := accP (peer c s p d) s (hi c s p) (kq p) fullShare (bef X p s (peer c s p d))

theorem rsRecv4_rule (c : Dev nD) (s : Fin 2) (p : Fin 3) (hp2 : p ≠ 2) (n m l : ℕ) (hm : ∀ d : Fin 3, T[m + d.val]? = some (false, s, p, d))
    (hl : ∀ d : Fin 3, T[l + d.val]? = some (false, s, p, d)) (hmn : m + 2 < n) (hln : l + 2 < n) (hn : n ≤ 28) (Q : PUnit → sProp 𝕄) :
    iprop(bundle X K c n m l ∗ accP c s (hi c s p) (kq p) fullShare (bef X p s c))
      ⊢ iprop((bundle X K c n (m + 3) (l + 3) ∗ accP c s (hi c s p) (kq p) fullShare (aft X p s c)
          ∗ (stAny c s p 0 ∗ stAny c s p 1 ∗ stAny c s p 2) ∗ (room X c s p 0 ∗ room X c s p 1 ∗ room X c s p 2) -∗ Q ⟨⟩)
        -∗ wpc c (rsRecv4 F c s p) Q) := by
  unfold rsRecv4 wpc
  simp only [wp_bind]
  rw [aft_eq X p hp2]
  have h0 := rsWait_rule X K c s p 0 n m l (hm 0) (by omega) hn
  have h1 := rsWait_rule X K c s p 1 n (m + 1) l (hm 1) (by omega) hn
  have h2 := rsWait_rule X K c s p 2 n (m + 2) l (hm 2) (by omega) hn
  simp only [recvPay_rs] at h0 h1 h2
  iintro ⟨H, Ha⟩ HQ
  iapply (h0 _) $$ H
  iintro ⟨H, Hv0, Hr0⟩
  iapply (h1 _) $$ H
  iintro ⟨H, Hv1, Hr1⟩
  iapply (h2 _) $$ H
  iintro ⟨H, Hv2, Hr2⟩
  iapply (ldStage_rule c s p 0 _ _) $$ Hv0
  iintro Hv0
  iapply (ldStage_rule c s p 1 _ _) $$ Hv1
  iintro Hv1
  iapply (ldStage_rule c s p 2 _ _) $$ Hv2
  iintro Hv2
  iapply (ldKeep_rule c s p _ _ _) $$ Ha
  iintro Ha
  iapply (ldKeep_rule c s p _ _ _) $$ Ha
  iintro Ha
  rw [sum4_read c s p hp2]
  iapply (stKeep_rule c s p _ _ _) $$ Ha
  iintro Ha
  iapply (rsDone_rule X K c s p 0 n (m + 3) l (hl 0) (by omega) hn _) $$ H
  iintro H
  iapply (rsDone_rule X K c s p 1 n (m + 3) (l + 1) (hl 1) (by omega) hn _) $$ H
  iintro H
  iapply (rsDone_rule X K c s p 2 n (m + 3) (l + 2) (hl 2) (by omega) hn _) $$ H
  iintro H
  iapply HQ
  isplitl [H]; · iexact H
  isplitl [Ha]; · iexact Ha
  isplitl [Hv0 Hv1 Hv2]
  · isplitl [Hv0]; · iapply (stVal_any c s p 0 _); iexact Hv0
    isplitl [Hv1]; · iapply (stVal_any c s p 1 _); iexact Hv1
    iapply (stVal_any c s p 2 _); iexact Hv2
  isplitl [Hr0]; · iexact Hr0
  isplitl [Hr1]; · iexact Hr1
  iexact Hr2

theorem rsRecv2_rule (c : Dev nD) (s : Fin 2) (n m l : ℕ) (hm : T[m]? = some (false, s, 2, 0)) (hl : T[l]? = some (false, s, 2, 0)) (hmn : m < n) (hln : l < n)
    (hn : n ≤ 28) (Q : PUnit → sProp 𝕄) :
    iprop(bundle X K c n m l ∗ accP c s (hi c s 2) (kq 2) fullShare (bef X 2 s c))
      ⊢ iprop((bundle X K c n (m + 1) (l + 1) ∗ accP c s (hi c s 2) (kq 2) fullShare (fin X) ∗ stAny c s 2 0 ∗ room X c s 2 0 -∗ Q ⟨⟩)
        -∗ wpc c (rsRecv2 F c s) Q) := by
  unfold rsRecv2 wpc
  simp only [wp_bind]
  have hf : (accP c s (hi c s 2) (kq 2) fullShare (fin X) : sProp 𝕄) = accP c s (hi c s 2) (kq 2) fullShare (nxt2 (bef X 2 s c) (bef X 2 s (peer c s 2 0))) :=
    (accP_congr _ _ _ _ _ fun i hi => fin_on X c s i hi).symm
  rw [hf]
  have h0 := rsWait_rule X K c s 2 0 n m l hm hmn hn
  simp only [recvPay_rs] at h0
  iintro ⟨H, Ha⟩ HQ
  iapply (h0 _) $$ H
  iintro ⟨H, Hv0, Hr0⟩
  iapply (ldStage_rule c s 2 0 _ _) $$ Hv0
  iintro Hv0
  iapply (ldKeep_rule c s 2 _ _ _) $$ Ha
  iintro Ha
  iapply (ldKeep_rule c s 2 _ _ _) $$ Ha
  iintro Ha
  rw [sum2_read c s]
  iapply (stKeep_rule c s 2 _ _ _) $$ Ha
  iintro Ha
  iapply (rsDone_rule X K c s 2 0 n (m + 1) l hl hln hn _) $$ H
  iintro H
  iapply HQ
  isplitl [H]; · iexact H
  isplitl [Ha]; · iexact Ha
  isplitl [Hv0]; · iapply (stVal_any c s 2 0 _); iexact Hv0
  iexact Hr0

/-! ## Gathering -/

theorem agShare_two (d : Fin 3) : agShare 2 d = fullShare := if_pos rfl
theorem accP_thirds (c : Dev nD) (s : Fin 2) (p : Fin 3) (hp2 : p ≠ 2) (r n : ℕ) (f : Full F) : (accP c s r n fullShare f : sProp 𝕄)
    = iprop(accP c s r n (agShare p 0) f ∗ accP c s r n (agShare p 1) f ∗ accP c s r n (agShare p 2) f) := by
  have h : ∀ d, agShare p d = Ring.shares3 fullShare d := fun d => if_neg hp2
  rw [h, h, h]
  unfold accP
  have h := Ring.pointsTo_thirds (Val := Elt F) (Ix := Unit) (Name := ℕ) (U := UU) (Lvl := ℕ) (ℓ := (c : Thread nD τ).loc cc0_scratch0) (I := blk s r n) fullShare f
  exact h.1.antisymm h.2

theorem agSend4_rule (c : Dev nD) (s : Fin 2) (p : Fin 3) (hp2 : p ≠ 2) (n m l : ℕ) (hT : ∀ d : Fin 3, T[n + d.val]? = some (true, s, p, d)) (hl : l ≤ n)
    (hp : ∀ d, pos (s, d) l = rnd (true, s, p, d)) (Q : PUnit → sProp 𝕄) :
    iprop(bundle X K c n m l ∗ accP c s (hi c s p) (kq p) fullShare (fin X) ∗ (room X c s p 0 ∗ room X c s p 1 ∗ room X c s p 2))
      ⊢ iprop((bundle X K c (n + 3) m l -∗ Q ⟨⟩) -∗ wpc c (agSend4 F c s p) Q) := by
  rw [accP_thirds c s p hp2]
  unfold agSend4 wpc
  simp only [wp_bind]
  iintro ⟨H, ⟨H0, H1, H2⟩, Hr0, Hr1, Hr2⟩ HQ
  iapply (agSend_rule X K c s p 0 n m l (hT 0) hl (hp 0) _ _) $$ [H H0 Hr0]
  · isplitl [H]; · iexact H
    isplitl [H0] <;> iassumption
  iintro H
  iapply (agSend_rule X K c s p 1 (n + 1) m l (hT 1) (by omega) (hp 1) _ _) $$ [H H1 Hr1]
  · isplitl [H]; · iexact H
    isplitl [H1] <;> iassumption
  iintro H
  iapply (agSend_rule X K c s p 2 (n + 2) m l (hT 2) (by omega) (hp 2) _ _) $$ [H H2 Hr2]
  · isplitl [H]; · iexact H
    isplitl [H2] <;> iassumption
  iintro H
  iapply HQ; iexact H

theorem agSend2_rule (c : Dev nD) (s : Fin 2) (n m l : ℕ) (hT : T[n]? = some (true, s, 2, 0)) (hl : l ≤ n)
    (hp : pos (s, 0) l = rnd (true, s, 2, 0)) (Q : PUnit → sProp 𝕄) :
    iprop(bundle X K c n m l ∗ accP c s (hi c s 2) (kq 2) fullShare (fin X) ∗ room X c s 2 0)
      ⊢ iprop((bundle X K c (n + 1) m l -∗ Q ⟨⟩) -∗ wpc c (agSend F c s 2 0) Q) := by
  have h := agSend_rule X K c s 2 0 n m l hT hl hp (bef X 2 s (peer c s 2 0)) Q
  rw [agShare_two] at h
  exact h

theorem recvPay_ag (c : Dev nD) (s : Fin 2) (p d : Fin 3) : (recvPay X c (true, s, p, d) : sProp 𝕄)
    = accP c s (hi (peer c s p d) s p) (kq p) fullShare (fin X) := rfl

theorem agWait4_rule (c : Dev nD) (s : Fin 2) (p : Fin 3) (hp2 : p ≠ 2) (n m l : ℕ) (hm : ∀ d : Fin 3, T[m + d.val]? = some (true, s, p, d))
    (hl : ∀ d : Fin 3, T[l + d.val]? = some (true, s, p, d)) (hmn : m + 2 < n) (hln : l + 2 < n) (hn : n ≤ 28) (Q : PUnit → sProp 𝕄) :
    bundle X K c n m l
      ⊢ iprop((bundle X K c n (m + 3) (l + 3) ∗ accP c s (lo c s p) (wq p) fullShare (fin X) -∗ Q ⟨⟩) -∗ wpc c (agWait4 F c s p) Q) := by
  rw [accP_quarters c c s p hp2, accP_thirds c s p hp2 (hi c s p) (kq p)]
  unfold agWait4 wpc
  simp only [wp_bind]
  have h0 := agRecv_rule X K c s p 0 n m l (hm 0) (by omega) hn
  have h1 := agRecv_rule X K c s p 1 n (m + 1) l (hm 1) (by omega) hn
  have h2 := agRecv_rule X K c s p 2 n (m + 2) l (hm 2) (by omega) hn
  simp only [recvPay_ag] at h0 h1 h2
  iintro H HQ
  iapply (h0 _) $$ H
  iintro ⟨H, Hr0⟩
  iapply (h1 _) $$ H
  iintro ⟨H, Hr1⟩
  iapply (h2 _) $$ H
  iintro ⟨H, Hr2⟩
  iapply (agDone_rule X K c s p 0 n (m + 3) l (hl 0) (by omega) hn _) $$ H
  iintro ⟨H, Hs0⟩
  iapply (agDone_rule X K c s p 1 n (m + 3) (l + 1) (hl 1) (by omega) hn _) $$ H
  iintro ⟨H, Hs1⟩
  iapply (agDone_rule X K c s p 2 n (m + 3) (l + 2) (hl 2) (by omega) hn _) $$ H
  iintro ⟨H, Hs2⟩
  iapply HQ
  isplitl [H]; · iexact H
  isplitl [Hs0 Hs1 Hs2]
  · isplitl [Hs0]; · iexact Hs0
    isplitl [Hs1] <;> iassumption
  isplitl [Hr0]; · iexact Hr0
  isplitl [Hr1] <;> iassumption

theorem agWait2_rule (c : Dev nD) (s : Fin 2) (n m l : ℕ) (hm : T[m]? = some (true, s, 2, 0)) (hl : T[l]? = some (true, s, 2, 0)) (hmn : m < n) (hln : l < n)
    (hn : n ≤ 28) (Q : PUnit → sProp 𝕄) :
    bundle X K c n m l
      ⊢ iprop((bundle X K c n (m + 1) (l + 1) ∗ accP c s (lo c s 2) (wq 2) fullShare (fin X) -∗ Q ⟨⟩) -∗ wpc c (agWait2 F c s) Q) := by
  rw [accP_halves c c s]
  unfold agWait2 wpc
  simp only [wp_bind]
  have h0 := agRecv_rule X K c s 2 0 n m l hm hmn hn
  have h1 := agDone_rule X K c s 2 0 n (m + 1) l hl hln hn
  simp only [recvPay_ag] at h0
  rw [agShare_two] at h1
  iintro H HQ
  iapply (h0 _) $$ H
  iintro ⟨H, Hr0⟩
  iapply (h1 _) $$ H
  iintro ⟨H, Hs0⟩
  iapply HQ
  isplitl [H]; · iexact H
  isplitl [Hs0] <;> iassumption

end Cert.KernelIdeal.Gen

end
-- ==== Proof.Mid.lean ====
module

public import proofs.«01_k».proof.Proof.Groups

@[expose] public section

/-! # The exchanges of one device, from the first to the last -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 2 → Dev nD → Full F) (K : Dev nD × Ck → ℕ)

variable (F) in
/-- The exchanges, from the start of the second stream's first phase on. -/
def mid (c : Dev nD) : Prog (TpuEff nD τ sig (Elt F) Λ₀ .tc) PUnit := do
  rsSend4 F c 1 0
  rsRecv4 F c 0 0; rsSend4 F c 0 1
  rsRecv4 F c 1 0; rsSend4 F c 1 1
  rsRecv4 F c 0 1; rsSend F c 0 2 0
  rsRecv4 F c 1 1; rsSend F c 1 2 0
  rsRecv2 F c 0
  rsRecv2 F c 1
  agSend F c 0 2 0
  agSend F c 1 2 0
  agWait2 F c 0; agSend4 F c 0 1
  agWait2 F c 1; agSend4 F c 1 1
  agWait4 F c 0 1; agSend4 F c 0 0
  agWait4 F c 1 1; agSend4 F c 1 0
  agWait4 F c 0 0
  agWait4 F c 1 0

/-- The landing places of one stream on one device. -/
def stages (c : Dev nD) (s : Fin 2) : sProp 𝕄 :=
  iprop((stAny c s 0 0 ∗ stAny c s 0 1 ∗ stAny c s 0 2) ∗ (stAny c s 1 0 ∗ stAny c s 1 1 ∗ stAny c s 1 2) ∗ stAny c s 2 0)

theorem accP_down (c : Dev nD) (s : Fin 2) (q : PosShare TreeShare) (f : Full F) :
    (accP c s (hi c s 0) (kq 0) q f : sProp 𝕄) = accP c s (lo c s 1) (wq 1) q f := by rw [hi_zero]; rfl

theorem mid_rule (c : Dev nD) (Q : PUnit → sProp 𝕄) :
    iprop(bundle X K c 3 0 0 ∗ accP c 0 (hi c 0 0) (kq 0) fullShare (X 0 c) ∗ accP c 1 0 1024 fullShare (X 1 c))
      ⊢ iprop((bundle X K c 28 28 28 ∗ accP c 0 0 1024 fullShare (fin X) ∗ accP c 1 0 1024 fullShare (fin X) ∗ stages c 0 ∗ stages c 1 -∗ Q ⟨⟩)
        -∗ wpc c (mid F c) Q) := by
  unfold mid wpc stages
  simp only [wp_bind]
  iintro ⟨H, Ha, Hb⟩ HQ
  iapply (rsSend4_rule X K c 1 0 (by decide) 3 0 0 (by decide) (by decide) (by decide) _) $$ [H Hb]
  · isplitl [H]; · iexact H
    iexact Hb
  iintro ⟨H, Hb⟩
  iapply (rsRecv4_rule X K c 0 0 (by decide) 6 0 0 (by decide) (by decide) (by decide) (by decide) (by decide) _) $$ [H Ha]
  · isplitl [H]; · iexact H
    iexact Ha
  iintro ⟨H, Ha, Ha1, Ra1⟩
  ihave Ha := (Entails.of_eq (accP_down c 0 fullShare (aft X 0 0 c))) $$ Ha
  iapply (rsSend4_rule X K c 0 1 (by decide) 6 3 3 (by decide) (by decide) (by decide) _) $$ [H Ha]
  · isplitl [H]; · iexact H
    iexact Ha
  iintro ⟨H, Ha⟩
  iapply (rsRecv4_rule X K c 1 0 (by decide) 9 3 3 (by decide) (by decide) (by decide) (by decide) (by decide) _) $$ [H Hb]
  · isplitl [H]; · iexact H
    iexact Hb
  iintro ⟨H, Hb, Hb1, Rb1⟩
  ihave Hb := (Entails.of_eq (accP_down c 1 fullShare (aft X 0 1 c))) $$ Hb
  iapply (rsSend4_rule X K c 1 1 (by decide) 9 6 6 (by decide) (by decide) (by decide) _) $$ [H Hb]
  · isplitl [H]; · iexact H
    iexact Hb
  iintro ⟨H, Hb⟩
  iapply (rsRecv4_rule X K c 0 1 (by decide) 12 6 6 (by decide) (by decide) (by decide) (by decide) (by decide) _) $$ [H Ha]
  · isplitl [H]; · iexact H
    iexact Ha
  iintro ⟨H, Ha, Ha2, Ra2⟩
  iapply (rsSend2_rule X K c 0 12 9 9 (by decide) (by decide) (by decide) _) $$ [H Ha]
  · isplitl [H]; · iexact H
    iexact Ha
  iintro ⟨H, Ha⟩
  iapply (rsRecv4_rule X K c 1 1 (by decide) 13 9 9 (by decide) (by decide) (by decide) (by decide) (by decide) _) $$ [H Hb]
  · isplitl [H]; · iexact H
    iexact Hb
  iintro ⟨H, Hb, Hb2, Rb2⟩
  iapply (rsSend2_rule X K c 1 13 12 12 (by decide) (by decide) (by decide) _) $$ [H Hb]
  · isplitl [H]; · iexact H
    iexact Hb
  iintro ⟨H, Hb⟩
  iapply (rsRecv2_rule X K c 0 14 12 12 (by decide) (by decide) (by decide) (by decide) (by decide) _) $$ [H Ha]
  · isplitl [H]; · iexact H
    iexact Ha
  iintro ⟨H, Ha, Ha3, Ra3⟩
  iapply (rsRecv2_rule X K c 1 14 13 13 (by decide) (by decide) (by decide) (by decide) (by decide) _) $$ [H Hb]
  · isplitl [H]; · iexact H
    iexact Hb
  iintro ⟨H, Hb, Hb3, Rb3⟩
  iapply (agSend2_rule X K c 0 14 14 14 (by decide) (by decide) (by decide) _) $$ [H Ha Ra3]
  · isplitl [H]; · iexact H
    isplitl [Ha]; · iexact Ha
    iexact Ra3
  iintro H
  iapply (agSend2_rule X K c 1 15 14 14 (by decide) (by decide) (by decide) _) $$ [H Hb Rb3]
  · isplitl [H]; · iexact H
    isplitl [Hb]; · iexact Hb
    iexact Rb3
  iintro H
  iapply (agWait2_rule X K c 0 16 14 14 (by decide) (by decide) (by decide) (by decide) (by decide) _) $$ H
  iintro ⟨H, Ha⟩
  iapply (agSend4_rule X K c 0 1 (by decide) 16 15 15 (by decide) (by decide) (by decide) _) $$ [H Ha Ra2]
  · isplitl [H]; · iexact H
    isplitl [Ha]; · iexact Ha
    iexact Ra2
  iintro H
  iapply (agWait2_rule X K c 1 19 15 15 (by decide) (by decide) (by decide) (by decide) (by decide) _) $$ H
  iintro ⟨H, Hb⟩
  iapply (agSend4_rule X K c 1 1 (by decide) 19 16 16 (by decide) (by decide) (by decide) _) $$ [H Hb Rb2]
  · isplitl [H]; · iexact H
    isplitl [Hb]; · iexact Hb
    iexact Rb2
  iintro H
  iapply (agWait4_rule X K c 0 1 (by decide) 22 16 16 (by decide) (by decide) (by decide) (by decide) (by decide) _) $$ H
  iintro ⟨H, Ha⟩
  ihave Ha := (Entails.of_eq (accP_down c 0 fullShare (fin X)).symm) $$ Ha
  iapply (agSend4_rule X K c 0 0 (by decide) 22 19 19 (by decide) (by decide) (by decide) _) $$ [H Ha Ra1]
  · isplitl [H]; · iexact H
    isplitl [Ha]; · iexact Ha
    iexact Ra1
  iintro H
  iapply (agWait4_rule X K c 1 1 (by decide) 25 19 19 (by decide) (by decide) (by decide) (by decide) (by decide) _) $$ H
  iintro ⟨H, Hb⟩
  ihave Hb := (Entails.of_eq (accP_down c 1 fullShare (fin X)).symm) $$ Hb
  iapply (agSend4_rule X K c 1 0 (by decide) 25 22 22 (by decide) (by decide) (by decide) _) $$ [H Hb Rb1]
  · isplitl [H]; · iexact H
    isplitl [Hb]; · iexact Hb
    iexact Rb1
  iintro H
  iapply (agWait4_rule X K c 0 0 (by decide) 28 22 22 (by decide) (by decide) (by decide) (by decide) (by decide) _) $$ H
  iintro ⟨H, Ha⟩
  iapply (agWait4_rule X K c 1 0 (by decide) 28 25 25 (by decide) (by decide) (by decide) (by decide) (by decide) _) $$ H
  iintro ⟨H, Hb⟩
  iapply HQ
  isplitl [H]; · iexact H
  isplitl [Ha]; · iexact Ha
  isplitl [Hb]; · iexact Hb
  isplitl [Ha1 Ha2 Ha3]
  · isplitl [Ha1]; · iexact Ha1
    isplitl [Ha2]; · iexact Ha2
    iexact Ha3
  isplitl [Hb1]; · iexact Hb1
  isplitl [Hb2]; · iexact Hb2
  iexact Hb3

end Cert.KernelIdeal.Gen

end
-- ==== Proof.Ends.lean ====
module

public import proofs.«01_k».proof.Proof.Mid

@[expose] public section

/-! # Before and after the exchanges

The signals and the barrier, the two halves of the device's own product, and the landing places as parts of the staging buffer. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 2 → Dev nD → Full F) (K : Dev nD × Ck → ℕ)

/-! ## The landing places are the staging buffer -/

/-- Rows `r` to `r + n` of stream `s` of the staging buffer, whatever they hold. -/
def stE (c : Dev nD) (s : Fin 2) (r n : ℕ) : sProp 𝕄 := iprop(∃ f, ((c : Thread nD τ).loc cc0_scratch1) ↦[blk s r n]{fullShare} f)

theorem stE_union (c : Dev nD) (I J : Finset S1024x1024.Idx) (hd : Disjoint I J) :
    iprop(∃ f, ((c : Thread nD τ).loc cc0_scratch1) ↦[I ∪ J]{fullShare} f : sProp 𝕄)
      = iprop((∃ f, ((c : Thread nD τ).loc cc0_scratch1) ↦[I]{fullShare} f) ∗ ∃ f, ((c : Thread nD τ).loc cc0_scratch1) ↦[J]{fullShare} f) := by
  have h1 : iprop(∃ f, ((c : Thread nD τ).loc cc0_scratch1) ↦[I ∪ J]{fullShare} f : sProp 𝕄)
      ⊢ iprop((∃ f, ((c : Thread nD τ).loc cc0_scratch1) ↦[I]{fullShare} f) ∗ ∃ f, ((c : Thread nD τ).loc cc0_scratch1) ↦[J]{fullShare} f) := by
    iintro ⟨%f, H⟩
    ihave H := (pointsTo_union (Val := Elt F) (Ix := Unit) (Name := ℕ) (U := UU) (Lvl := ℕ) (ℓ := (c : Thread nD τ).loc cc0_scratch1) (q := fullShare) (f := f) hd).1 $$ H
    icases H with ⟨H1, H2⟩
    isplitl [H1]; · iexists f; iexact H1
    iexists f; iexact H2
  have h2 : iprop((∃ f, ((c : Thread nD τ).loc cc0_scratch1) ↦[I]{fullShare} f) ∗ ∃ f, ((c : Thread nD τ).loc cc0_scratch1) ↦[J]{fullShare} f)
      ⊢ iprop(∃ f, ((c : Thread nD τ).loc cc0_scratch1) ↦[I ∪ J]{fullShare} f : sProp 𝕄) := by
    iintro ⟨⟨%f, H1⟩, ⟨%g, H2⟩⟩
    iexists (J.piecewise g f)
    iapply (pointsTo_join (Val := Elt F) (Ix := Unit) (Name := ℕ) (U := UU) (Lvl := ℕ) (ℓ := (c : Thread nD τ).loc cc0_scratch1) (q := fullShare) (f := f) (g := g) hd)
    isplitl [H1] <;> iassumption
  exact h1.antisymm h2

theorem stE_append (c : Dev nD) (s : Fin 2) (r n n' : ℕ) : (stE c s r (n + n') : sProp 𝕄) = iprop(stE c s r n ∗ stE c s (r + n) n') := by
  have hd : Disjoint (blk s r n) (blk s (r + n) n') := by
    rw [Finset.disjoint_left]; intro i hi hj; rw [mem_blk] at hi hj; omega
  have hu : blk s r (n + n') = blk s r n ∪ blk s (r + n) n' := by
    ext i; rw [Finset.mem_union, mem_blk, mem_blk, mem_blk]; omega
  unfold stE
  rw [hu, stE_union c _ _ hd]

theorem stE_whole (c : Dev nD) : iprop(∃ f, ((c : Thread nD τ).loc cc0_scratch1) ↦{fullShare} f : sProp 𝕄) = iprop(stE c 0 0 1024 ∗ stE c 1 0 1024) := by
  have hd : Disjoint (blk 0 0 1024) (blk 1 0 1024) := by
    rw [Finset.disjoint_left]; intro i hi hj; rw [mem_blk] at hi hj
    simp only [col] at hi hj; omega
  have hu : (Finset.univ : Finset S1024x1024.Idx) = blk 0 0 1024 ∪ blk 1 0 1024 := by
    ext i; rw [Finset.mem_union, mem_blk, mem_blk]
    have h0 : (i 0).val < 1024 := (i 0).isLt
    have h1 : (i 1).val < 1024 := (i 1).isLt
    simp only [col, Finset.mem_univ, true_iff]; omega
  unfold stE
  rw [← stE_union c _ _ hd, ← hu]

theorem stAny_eq (c : Dev nD) (s : Fin 2) (p d : Fin 3) : (stAny c s p d : sProp 𝕄) = stE c s (stRow p d) (kq p) := by
  have h : (stM s p d).view.set = blk s (stRow p d) (kq p) := (View.set_slice_whole _ _).trans (unit_set_eq _ rfl)
  unfold stAny stE; rw [h]

theorem stages_eq (c : Dev nD) (s : Fin 2) : (stE c s 0 1024 : sProp 𝕄) = iprop(stages c s ∗ stE c s 992 32) := by
  have e : (stE c s 0 1024 : sProp 𝕄) = iprop(stE c s 0 256 ∗ stE c s 256 256 ∗ stE c s 512 256 ∗ stE c s 768 64 ∗ stE c s 832 64 ∗ stE c s 896 64
      ∗ stE c s 960 32 ∗ stE c s 992 32) := by
    have h := fun r n n' => stE_append (F := F) c s r n n'
    rw [h 0 256 768, h 256 256 512, h 512 256 256, h 768 64 192, h 832 64 128, h 896 64 64, h 960 32 32]
  rw [e]
  unfold stages
  simp only [stAny_eq]
  show iprop(stE c s 0 256 ∗ stE c s 256 256 ∗ stE c s 512 256 ∗ stE c s 768 64 ∗ stE c s 832 64 ∗ stE c s 896 64 ∗ stE c s 960 32 ∗ stE c s 992 32)
    = iprop(((stE c s 0 256 ∗ stE c s 256 256 ∗ stE c s 512 256) ∗ (stE c s 768 64 ∗ stE c s 832 64 ∗ stE c s 896 64) ∗ stE c s 960 32) ∗ stE c s 992 32)
  have A (P Q R : sProp 𝕄) : iprop((P ∗ Q) ∗ R) = iprop(P ∗ Q ∗ R) := equiv_iff.mp ⟨BI.sep_assoc, BI.sep_assoc'⟩
  simp only [A]

/-! ## The signals and the barrier -/

theorem sig_rule (c : Dev nD) (j : Fin 7) (W : Waits sig Unit) (Q : PUnit → sProp 𝕄) :
    iprop(recs X K ∗ owes (c : Thread nD τ) (dueB c j.val) W ∗ dutyTok ER (barCell (bpeer c j)) 0 j
        ∗ stAny c 0 (bt 0 j).1 (bt 0 j).2 ∗ stAny c 1 (bt 1 j).1 (bt 1 j).2)
      ⊢ iprop((owes (c : Thread nD τ) (dueB c (j.val + 1)) W -∗ Q ⟨⟩) -∗ wpc c (semSignalWord (barDev c j) barS 1#32) Q) := by
  have hpay : (Rd X).payload (((bpeer c j : Dev nD) : Thread nD τ), .reg barS) 0 j = iprop(stAny c 0 (bt 0 j).1 (bt 0 j).2 ∗ stAny c 1 (bt 1 j).1 (bt 1 j).2) := by
    refine (payload_bar X (bpeer c j) j).trans ?_
    unfold barPay; rw [bpeer_bpeer]
  have hd : j ∈ (Rd X).duties (((bpeer c j : Dev nD) : Thread nD τ), .reg barS) 0 := by
    rw [show (((bpeer c j : Dev nD) : Thread nD τ), SemLoc.reg barS) = barCell (bpeer c j) from rfl, duties_bar]; exact Finset.mem_univ _
  have hk : (Rd X).amount (((bpeer c j : Dev nD) : Thread nD τ), .reg barS) 0 j = (1#32 : BitVec 32).toInt.toNat := amount_bar X (bpeer c j) j
  rw [barDev_eq, ← hpay, show (semSignalWord (bpeer c j) barS 1#32 : Prog (TpuEff nD τ sig (Elt F) Λ₀ .tc) PUnit)
    = .op (.semSignal ((bpeer c j : Dev nD) : Thread nD τ) barS (1#32 : BitVec 32).toInt) .ret from rfl]
  iintro ⟨#HR, HO, Ht, Hp⟩ HQ
  iapply (Rounds.wp_signal 𝒱₀ ER (Rd X) (c : Thread nD τ) none (dst := ((bpeer c j : Dev nD) : Thread nD τ)) (κ := K (bpeer c j, .inl ())) hd hk ()
    (dueB c (j.val + 1)) (dueB_step c j)) $$ [HO Ht Hp]
  · isplitr; · iapply (inv_at X K (bpeer c j, .inl ())); iexact HR
    isplitl [HO]; · iexact HO
    isplitl [Ht]; · iexact Ht
    isplitl [Hp]; · iexact Hp
    iapply (reached_at X K (bpeer c j, .inl ())); iexact HR
  iintro HO
  rw [wp_ret]; imodintro
  iapply HQ; iexact HO

theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- What the seven signals bring is what the scattering exchanges need. -/
theorem lands (c : Dev nD) : bigSep Finset.univ (barPay (F := F) c) ⊢ bigSepL T (landP c) := by
  have e (s : Fin 2) (j : Fin 7) : (landP c (false, s, bt s j) : sProp 𝕄) = stAny (bpeer c j) s (bt s j).1 (bt s j).2 := by
    rw [← bpeer_eq c s j]; rfl
  have eb (j : Fin 7) : (barPay c j : sProp 𝕄) = iprop(landP c (false, 0, bt 0 j) ∗ landP c (false, 1, bt 1 j)) := by rw [e, e]; rfl
  rw [bigSep_seven, eb, eb, eb, eb, eb, eb, eb]
  show _ ⊢ iprop(landP c (false, 0, bt 0 0) ∗ landP c (false, 0, bt 0 1) ∗ landP c (false, 0, bt 0 2) ∗ landP c (false, 1, bt 1 3) ∗ landP c (false, 1, bt 1 4)
    ∗ landP c (false, 1, bt 1 5) ∗ landP c (false, 0, bt 0 3) ∗ landP c (false, 0, bt 0 4) ∗ landP c (false, 0, bt 0 5) ∗ landP c (false, 1, bt 1 0)
    ∗ landP c (false, 1, bt 1 1) ∗ landP c (false, 1, bt 1 2) ∗ landP c (false, 0, bt 0 6) ∗ landP c (false, 1, bt 1 6)
    ∗ emp ∗ emp ∗ emp ∗ emp ∗ emp ∗ emp ∗ emp ∗ emp ∗ emp ∗ emp ∗ emp ∗ emp ∗ emp ∗ emp)
  iintro ⟨⟨A0, B0⟩, ⟨A1, B1⟩, ⟨A2, B2⟩, ⟨A3, B3⟩, ⟨A4, B4⟩, ⟨A5, B5⟩, A6, B6⟩
  isplitl [A0]; · iexact A0
  isplitl [A1]; · iexact A1
  isplitl [A2]; · iexact A2
  isplitl [B3]; · iexact B3
  isplitl [B4]; · iexact B4
  isplitl [B5]; · iexact B5
  isplitl [A3]; · iexact A3
  isplitl [A4]; · iexact A4
  isplitl [A5]; · iexact A5
  isplitl [B0]; · iexact B0
  isplitl [B1]; · iexact B1
  isplitl [B2]; · iexact B2
  isplitl [A6]; · iexact A6
  isplitl [B6]; · iexact B6
  (repeat' isplitr) <;> iempintro

theorem bar_rule (c : Dev nD) (W : Waits sig Unit) (Q : PUnit → sProp 𝕄) :
    iprop(recs X K ∗ levAts L lv ∗ owes (c : Thread nD τ) (due c 0) W ∗ atPos ER (barCell c) 0 ∅ 0 ∗ cred (tallyAt (barCell c) () 7))
      ⊢ iprop(((∃ W, owes (c : Thread nD τ) (due c 0) W) ∗ semVal (barCell c) 0 ∗ bigSepL T (landP c) -∗ Q ⟨⟩) -∗ wpc c (semWaitWord barS 7#32) Q) := by
  have hw : ∀ Kt : PUnit → sProp 𝕄, wpE (defs₀ (F := F)) 𝒱₀ (c : Thread nD τ) none Set.univ (.semWait barS (7#32 : BitVec 32).toInt) Kt
      = waitSpec (c : Thread nD τ) Set.univ (csem (.inl ())) (7#32 : BitVec 32).toInt.toNat Kt := wpE_semWait_eq 𝒱₀ (c : Thread nD τ) none Set.univ
  rw [show (semWaitWord barS 7#32 : Prog (TpuEff nD τ sig (Elt F) Λ₀ .tc) PUnit) = .op (.semWait barS (7#32 : BitVec 32).toInt) .ret from rfl]
  iintro ⟨#HR, #Hlev, HO, Hat, Hc⟩ HQ
  iapply (Rounds.wp_wait_rest_token 𝒱₀ ER (Rd X) (c : Thread nD τ) none (κ := K (c, .inl ())) hw (Set.mem_univ _) () (O := due c 0) (W := W)
    (R := 0) (m := 0) (T := ∅) (by rw [Nat.zero_add]; exact (expect_bar X c).symm)) $$ [Hat Hc HO]
  · isplitr; · iapply (inv_at X K (c, .inl ())); iexact HR
    isplitl [Hc]; · iexact Hc
    isplitl [HO]; · iexact HO
    isplitr; · iapply (mayWait_due c (.inl ()) 0 (by decide) 1 le_rfl (by decide)); iexact Hlev
    iexact Hat
  iintro ⟨HO, Hat, -, Hpay⟩
  ihave Hp := (Entails.of_eq (rest_bar X c)) $$ Hpay
  ihave Hp := (lands c) $$ Hp
  rw [wp_ret]
  imod (Rounds.cell_close ER (Rd X) (Set.mem_univ (K (c, .inl ()))) (fun h => h) (R := 0 + 1) (later_bar X c)) $$ [Hat] with Hz
  · isplitr; · iapply (inv_at X K (c, .inl ())); iexact HR
    iexact Hat
  imodintro
  iapply HQ
  isplitl [HO]; · iexists _; iexact HO
  isplitl [Hz]; · iexact Hz
  iexact Hp

/-! ## The halves of the own product -/

/-- The contents that have `v` in the columns of stream `s` (and repeat it in the other columns). -/
def spread (v : Vec F S1024x512 .bf16) : Full F := fun i => v fun
  | ⟨0, _⟩ => ⟨(i 0).val, (i 0).isLt⟩
  | ⟨1, _⟩ => ⟨(i 1).val % 512, Nat.mod_lt _ (by decide)⟩

theorem half_set (s : Fin 2) : ((accM).access (halfR s)).set = blk s 0 1024 :=
  (View.set_slice_whole _ _).trans (unit_set_eq (q := 1024) _ rfl)

theorem ldHalf_rule (c : Dev nD) (s : Fin 2) (f : Full F) (Q : Vec F S1024x512 .bf16 → sProp 𝕄) :
    accP c s 0 1024 fullShare f ⊢ iprop((∀ v, accP c s 0 1024 fullShare f -∗ Q v) -∗ wpc c (ldHalf F s) Q) := by
  unfold accP
  rw [show ldHalf F s = .op (.load accM (halfR s).toLoadRect (View.loadsAt_vmem h_S1024x512)) .ret from rfl]
  iintro H Hk
  iapply (wp_load_rect 𝒱₀ (c : Thread nD τ) none Set.univ (m := accM) (r := halfR s) (S := blk s 0 1024) (Finset.subset_of_eq (half_set s))) $$ H
  iintro H
  rw [wp_ret]; imodintro
  iapply Hk; iexact H

theorem col_mod : ∀ s, col s % 512 = 0 := by decide

theorem write_half (s : Fin 2) (f : Full F) (v : Vec F S1024x512 .bf16) (i : S1024x1024.Idx) (hi : i ∈ blk s 0 1024) :
    ((accM).access (halfR s)).write (Elt F) f v Finset.univ i = spread v i := by
  rw [← half_set s] at hi
  obtain ⟨j, -, rfl⟩ := Finset.mem_map.mp hi
  refine (View.write_emb_of_mem _ _ (Finset.mem_univ j)).trans ?_
  unfold spread
  refine congrArg v (funext fun a => ?_)
  have h0 : (((accM).access (halfR s)).emb j 0).val = 0 + 1 * (j 0).val := rfl
  have h1 : (((accM).access (halfR s)).emb j 1).val = col s + 1 * (j 1).val := rfl
  have h : (j 1).val < 512 := (j 1).isLt
  have hc := col_mod s
  match a with
  | ⟨0, _⟩ => exact Fin.ext (show (j 0).val = (((accM).access (halfR s)).emb j 0).val by omega)
  | ⟨1, _⟩ => exact Fin.ext (show (j 1).val = (((accM).access (halfR s)).emb j 1).val % 512 by omega)

theorem stHalf_rule (c : Dev nD) (s : Fin 2) (f : Full F) (v : Vec F S1024x512 .bf16) (Q : PUnit → sProp 𝕄) :
    accP c s 0 1024 fullShare f ⊢ iprop((accP c s 0 1024 fullShare (spread v) -∗ Q ⟨⟩) -∗ wpc c (stHalf s v) Q) := by
  have hw : (accP c s 0 1024 fullShare (((accM).access (halfR s)).write (Elt F) f v Finset.univ) : sProp 𝕄) = accP c s 0 1024 fullShare (spread v) :=
    accP_congr _ _ _ _ _ fun i hi => write_half s f v i hi
  rw [← hw]
  unfold accP
  iintro H Hk
  iapply (wp_store 𝒱₀ (c : Thread nD τ) none Set.univ (m := accM) (r := halfR s) (Mk := Finset.univ) (S := blk s 0 1024)
    (Finset.subset_of_eq (half_set s))) $$ H
  iintro H
  rw [wp_ret]; imodintro
  iapply Hk; iexact H

end Cert.KernelIdeal.Gen

end
-- ==== Proof.Body.lean ====
module

public import proofs.«01_k».proof.Proof.Ends

@[expose] public section

/-! # The whole body of one device

What a device starts from, what it ends with, and that its body leads from the one to the other. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Each device's own product, in its two streams. -/
def part (x : Dev nD → Vec F S1024x1024 .bf16) (w1 : Dev nD → Vec F S1024x2048 .bf16) (w2 : Dev nD → Vec F S2048x1024 .bf16) : Fin 2 → Dev nD → Full F
  | 0, c => spread (k0_pay3 (k0_pay1 (x c) (w1 c)) (w2 c))
  | 1, c => spread (k0_pay4 (k0_pay1 (x c) (w1 c)) (k0_pay2 (w2 c)))

section

variable (X : Fin 2 → Dev nD → Full F) (K : Dev nD × Ck → ℕ)

/-! ## Start and end -/

theorem listT (Φ : Tr → sProp 𝕄) : bigSepL T Φ = bigSep T.toFinset Φ := (bigSep_eq_bigSepL T T_nodup Φ).symm

/-- What a device is dealt: the records, its positions, and the tokens of all that it pays. -/
def ghost (c : Dev nD) : sProp 𝕄 :=
  iprop(recs X K ∗ atPos ER (barCell c) 0 ∅ 0 ∗ (bigSep Finset.univ fun L : Ln => atPos ER (laneCell c L) 0 ∅ 0)
    ∗ (bigSep Finset.univ fun t : Tr => atPos ER (recvCell c t) 0 ∅ 0)
    ∗ (bigSep Finset.univ fun j : Fin 7 => dutyTok ER (barCell (bpeer c j)) 0 j)
    ∗ (bigSepL T fun t => dutyTok ER (laneCell c (lane t)) (rnd t) 0) ∗ bigSepL T fun t => dutyTok ER (recvCell (dest c t) t) 0 0)

/-- What a device's body starts from, but for the buffers. -/
def start (c : Dev nD) : sProp 𝕄 :=
  iprop((∃ K, ghost X K c) ∗ cred (tallyAt (barCell c) () 7) ∗ (bigSepL T fun t => cred (tallyAt (recvCell c t) () (cr t.2.2.1))) ∗ levAts L lv)

/-- The scratch buffers, whatever they hold. -/
def scr (c : Dev nD) : sProp 𝕄 :=
  iprop((∃ f, ((c : Thread nD τ).loc cc0_scratch0) ↦{fullShare} f) ∗ ∃ f, ((c : Thread nD τ).loc cc0_scratch1) ↦{fullShare} f)

/-- What it ends with: the scratch buffers, and all its semaphores at zero. -/
def stop (c : Dev nD) : sProp 𝕄 :=
  iprop(scr c ∗ semVal (barCell c) 0 ∗ bigSep Finset.univ fun k : Ln ⊕ Tr => semVal (kcell (c, .inr k)) 0)

theorem lanes_start (c : Dev nD) :
    iprop(recs X K ∗ bigSep Finset.univ fun L : Ln => atPos ER (laneCell c L) 0 ∅ 0) ⊢ bigSep Finset.univ (laneAt c 0) := by
  refine (sep_mono_left (BI.bigSep_of_persistent (Finset.univ : Finset Ln) (recs X K))).trans ?_
  rw [← bigSep_sep']
  refine bigSep_mono fun L _ => ?_
  unfold laneAt
  rw [show pos L 0 = 0 from rfl]
  show iprop(recs X K ∗ atPos ER (laneCell c L) 0 ∅ 0) ⊢ iprop(atPos ER (laneCell c L) 0 ∅ 0 ∗ reached ER (laneCell c L) 0)
  iintro ⟨#HR, H⟩
  isplitl [H]; · iexact H
  iapply (reached_at X K (c, .inr (.inl L))); iexact HR

theorem bundle_start (c : Dev nD) (W : Waits sig Unit) :
    iprop(recs X K ∗ levAts L lv ∗ owes (c : Thread nD τ) (due c 0) W ∗ (bigSep Finset.univ fun L : Ln => atPos ER (laneCell c L) 0 ∅ 0)
        ∗ (bigSepL T fun t => atPos ER (recvCell c t) 0 ∅ 0) ∗ (bigSepL T fun t => cred (tallyAt (recvCell c t) () (cr t.2.2.1)))
        ∗ (bigSepL T fun t => dutyTok ER (laneCell c (lane t)) (rnd t) 0) ∗ (bigSepL T fun t => dutyTok ER (recvCell (dest c t) t) 0 0)
        ∗ bigSepL T (landP c))
      ⊢ bundle X K c 0 0 0 := by
  have hk : bigSepL T (kit (F := F) c) = iprop((bigSepL T fun t => dutyTok ER (laneCell c (lane t)) (rnd t) 0)
      ∗ (bigSepL T fun t => dutyTok ER (recvCell (dest c t) t) 0 0) ∗ bigSepL T (landP c)) := by
    simp only [listT]; rw [← bigSep_sep', ← bigSep_sep']; rfl
  have hi : bigSepL T (inn (F := F) c) = iprop((bigSepL T fun t => atPos ER (recvCell c t) 0 ∅ 0)
      ∗ bigSepL T fun t => cred (tallyAt (recvCell c t) () (cr t.2.2.1))) := by
    simp only [listT]; rw [← bigSep_sep']; rfl
  unfold bundle
  rw [List.drop_zero, List.take_zero, List.drop_zero, bigSepL_nil, bigSepL_nil, hk, hi]
  iintro ⟨#HR, #Hlev, HO, HL, Hat, Hc, H1, H2, H3⟩
  isplitr; · iexact HR
  isplitr; · iexact Hlev
  isplitl [HO]; · iexists W; iexact HO
  isplitl [H1 H2 H3]
  · isplitl [H1]; · iexact H1
    isplitl [H2] <;> iassumption
  isplitl [Hat Hc]
  · isplitl [Hat] <;> iassumption
  isplitr; · iempintro
  isplitr; · iempintro
  iapply (lanes_start X K c)
  isplitr; · iexact HR
  iexact HL

/-- The receive semaphores that are used, and the others. -/
theorem recv_split (Φ : Tr → sProp 𝕄) : bigSep Finset.univ Φ = iprop(bigSepL T Φ ∗ bigSep (Finset.univ \ T.toFinset) Φ) := by
  rw [listT]; exact BI.bigSep_sdiff_split (Finset.subset_univ _)

/-- The kernel's own semaphores: the lanes, and the receive semaphores. -/
theorem sems_split (Φ : Ln ⊕ Tr → sProp 𝕄) :
    bigSep Finset.univ Φ = iprop((bigSep Finset.univ fun L : Ln => Φ (.inl L)) ∗ bigSep Finset.univ fun t : Tr => Φ (.inr t)) := BI.bigSep_univ_sum Φ

theorem close_lanes (c : Dev nD) :
    iprop(recs X K ∗ bigSep Finset.univ (laneAt c 28)) ⊢ |={Set.univ}=> bigSep Finset.univ fun L : Ln => semVal (laneCell c L) 0 := by
  refine ((sep_mono_left (BI.bigSep_of_persistent (Finset.univ : Finset Ln) (recs X K))).trans ?_).trans
    (Rounds.cells_close ER (Rd X) Finset.univ (fun L : Ln => laneCell c L) (fun L => K (c, .inr (.inl L))) (fun _ _ => Set.mem_univ _)
      (fun _ _ h => h) laneLen fun L _ => later_lane X c L)
  rw [← bigSep_sep']
  refine bigSep_mono fun L _ => ?_
  unfold laneAt; rw [pos_all]
  show iprop(recs X K ∗ atPos ER (laneCell c L) (laneLen L) ∅ 0 ∗ reached ER (laneCell c L) (laneLen L))
    ⊢ iprop(cellInv ER (Rd X) (K (c, .inr (.inl L))) (laneCell c L) ∗ atPos ER (laneCell c L) (laneLen L) ∅ 0)
  iintro ⟨#HR, H, -⟩
  isplitr; · iapply (inv_at X K (c, .inr (.inl L))); iexact HR
  iexact H

theorem close_unused (c : Dev nD) :
    iprop(recs X K ∗ bigSep (Finset.univ \ T.toFinset) fun t : Tr => atPos ER (recvCell c t) 0 ∅ 0)
      ⊢ |={Set.univ}=> bigSep (Finset.univ \ T.toFinset) fun t : Tr => semVal (recvCell c t) 0 := by
  refine ((sep_mono_left (BI.bigSep_of_persistent (Finset.univ \ T.toFinset) (recs X K))).trans ?_).trans
    (Rounds.cells_close ER (Rd X) (Finset.univ \ T.toFinset) (fun t : Tr => recvCell c t) (fun t => K (c, .inr (.inr t))) (fun _ _ => Set.mem_univ _)
      (fun _ _ h => h) (fun _ => 0) fun t ht => unused_recv X c t fun h => (Finset.mem_sdiff.mp ht).2 (List.mem_toFinset.mpr h))
  rw [← bigSep_sep']
  exact bigSep_mono fun t _ => sep_mono_left (inv_at X K (c, .inr (.inr t)))

theorem bundle_stop (c : Dev nD) :
    bundle X K c 28 28 28 ⊢ iprop((∃ W, owes (c : Thread nD τ) 0 W) ∗ (bigSepL T fun t => semVal (recvCell c t) 0) ∗ bigSep Finset.univ (laneAt c 28)) := by
  unfold bundle
  rw [due_end, show T.take 28 = T from rfl]
  iintro ⟨-, -, HO, -, -, Hs, -, HL⟩
  isplitl [HO]; · iexact HO
  isplitl [Hs] <;> iassumption

end

/-! ## The body -/

section

variable (x : Dev nD → Vec F S1024x1024 .bf16) (w1 : Dev nD → Vec F S1024x2048 .bf16) (w2 : Dev nD → Vec F S2048x1024 .bf16)
variable (K : Dev nD × Ck → ℕ)

theorem hz : (![0, 0] : Fin 2 → Nat) = fun _ => 0 := funext fun a => by fin_cases a <;> rfl

theorem ld_x (f : (cc0_stg0_0 : Ref sig .tc).ty.Contents (Elt F)) :
    (xM : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_stg0_0 hz _ f
theorem ld_w1 (f : (cc0_stg1_0 : Ref sig .tc).ty.Contents (Elt F)) :
    (w1M : Memref sig .tc .vmem S1024x2048 .bf16).view.readAt (Elt F) (Rect.unit (s := S1024x2048) ![0, 0] S1024x2048.size inb_S1024x2048_S1024x2048_0_0).toLoadRect f = f :=
  Memref.readAt_unit_zero (Elt F) cc0_stg1_0 hz _ f
theorem ld_w2 (f : (cc0_stg2_0 : Ref sig .tc).ty.Contents (Elt F)) :
    (w2M : Memref sig .tc .vmem S2048x1024 .bf16).view.readAt (Elt F) (Rect.unit (s := S2048x1024) ![0, 0] S2048x1024.size inb_S2048x1024_S2048x1024_0_0).toLoadRect f = f :=
  Memref.readAt_unit_zero (Elt F) cc0_stg2_0 hz _ f
theorem ld_acc (f : (cc0_scratch0 : Ref sig .tc).ty.Contents (Elt F)) :
    (accM : Memref sig .tc .vmem S1024x1024 .bf16).view.readAt (Elt F) (Rect.unit (s := S1024x1024) ![0, 0] S1024x1024.size inb_S1024x1024_S1024x1024_0_0).toLoadRect f = f :=
  Memref.readAt_unit_zero (Elt F) cc0_scratch0 hz _ f
theorem st_out (f w : (cc0_stg3_0 : Ref sig .tc).ty.Contents (Elt F)) :
    ((outM : Memref sig .tc .vmem S1024x1024 .f32).access (Rect.unit (s := S1024x1024) ![0, 0] S1024x1024.size inb_S1024x1024_S1024x1024_0_0)
      : View sig .tc _ _ _).write (Elt F) f w Finset.univ = w :=
  Memref.write_access_unit_zero_univ (Elt F) cc0_stg3_0 hz _ f w

/-- A buffer held whole. -/
abbrev own (c : Dev nD) (b : Ref sig .tc) (f : b.ty.Contents (Elt F)) : sProp 𝕄 := ((c : Thread nD τ).loc b) ↦{fullShare} f

theorem sig_all (X : Fin 2 → Dev nD → Full F) (c : Dev nD) (j : Fin 7) (W : Waits sig Unit) (Q : PUnit → sProp 𝕄) (n n' : ℕ) (hn : n = j.val) (hn' : n' = j.val + 1)
    (p p' d d' : Fin 3) (h0 : bt 0 j = (p, d)) (h1 : bt 1 j = (p', d')) :
    iprop(recs X K ∗ owes (c : Thread nD τ) (dueB c n) W ∗ dutyTok ER (barCell (bpeer c j)) 0 j ∗ stAny c 0 p d ∗ stAny c 1 p' d')
      ⊢ iprop((owes (c : Thread nD τ) (dueB c n') W -∗ Q ⟨⟩) -∗ wpc c (semSignalWord (barDev c j) barS 1#32) Q) := by
  subst hn hn'
  have h := sig_rule X K c j W Q
  rw [h0, h1] at h
  exact h

set_option maxHeartbeats 2000000 in
theorem steps_rule (c : Dev nD) (W : Waits sig Unit) (Q : PUnit → sProp 𝕄) :
    iprop(ghost (part x w1 w2) K c ∗ cred (tallyAt (barCell c) () 7) ∗ (bigSepL T fun t => cred (tallyAt (recvCell c t) () (cr t.2.2.1))) ∗ levAts L lv
        ∗ scr c ∗ owes (c : Thread nD τ) (dueB c 0) W ∗ own c cc0_stg0_0 (x c) ∗ own c cc0_stg1_0 (w1 c) ∗ own c cc0_stg2_0 (w2 c) ∗ ∃ f, own c cc0_stg3_0 f)
      ⊢ iprop((stop c ∗ (∃ W, owes (c : Thread nD τ) 0 W) ∗ own c cc0_stg0_0 (x c) ∗ own c cc0_stg1_0 (w1 c) ∗ own c cc0_stg2_0 (w2 c)
            ∗ own c cc0_stg3_0 (k0_pay11 (fin (part x w1 w2))) -∗ Q ⟨⟩)
        -∗ wpc c (steps F) Q) := by
  have hmid := fun Q => mid_rule (part x w1 w2) K c Q
  unfold mid wpc at hmid
  simp only [wp_bind, stages] at hmid
  unfold steps wpc ghost scr
  rw [recv_split, bigSep_seven]
  simp only [wp_bind, Prog.lift, wp_deviceId, accP_whole, stE_whole, stages_eq, stages]
  iintro ⟨⟨#HR, HatB, HatL, ⟨HatV, HatU⟩, ⟨D0, D1, D2, D3, D4, D5, D6⟩, Htl, Htr⟩, HcB, HcV, #Hlev, ⟨⟨%f, Ha0, Ha1⟩,
    ⟨⟨⟨S00, S01, S02⟩, ⟨S03, S04, S05⟩, S06⟩, Hr0⟩, ⟨⟨S10, S11, S12⟩, ⟨S13, S14, S15⟩, S16⟩, Hr1⟩, HO, Hx, Hw1, Hw2, ⟨%g, Hout⟩⟩ HQ
  rw [wp_ret]; imodintro
  iapply (sig_all K (part x w1 w2) c 0 W _ 0 1 rfl rfl 0 1 0 0 rfl rfl) $$ [HO D0 S00 S13]
  · isplitr; · iexact HR
    isplitl [HO]; · iexact HO
    isplitl [D0]; · iexact D0
    isplitl [S00]; · iexact S00
    iexact S13
  iintro HO
  iapply (sig_all K (part x w1 w2) c 1 W _ 1 2 rfl rfl 0 1 1 1 rfl rfl) $$ [HO D1 S01 S14]
  · isplitr; · iexact HR
    isplitl [HO]; · iexact HO
    isplitl [D1]; · iexact D1
    isplitl [S01]; · iexact S01
    iexact S14
  iintro HO
  iapply (sig_all K (part x w1 w2) c 2 W _ 2 3 rfl rfl 0 1 2 2 rfl rfl) $$ [HO D2 S02 S15]
  · isplitr; · iexact HR
    isplitl [HO]; · iexact HO
    isplitl [D2]; · iexact D2
    isplitl [S02]; · iexact S02
    iexact S15
  iintro HO
  iapply (sig_all K (part x w1 w2) c 3 W _ 3 4 rfl rfl 1 0 0 0 rfl rfl) $$ [HO D3 S03 S10]
  · isplitr; · iexact HR
    isplitl [HO]; · iexact HO
    isplitl [D3]; · iexact D3
    isplitl [S03]; · iexact S03
    iexact S10
  iintro HO
  iapply (sig_all K (part x w1 w2) c 4 W _ 4 5 rfl rfl 1 0 1 1 rfl rfl) $$ [HO D4 S04 S11]
  · isplitr; · iexact HR
    isplitl [HO]; · iexact HO
    isplitl [D4]; · iexact D4
    isplitl [S04]; · iexact S04
    iexact S11
  iintro HO
  iapply (sig_all K (part x w1 w2) c 5 W _ 5 6 rfl rfl 1 0 2 2 rfl rfl) $$ [HO D5 S05 S12]
  · isplitr; · iexact HR
    isplitl [HO]; · iexact HO
    isplitl [D5]; · iexact D5
    isplitl [S05]; · iexact S05
    iexact S12
  iintro HO
  iapply (sig_all K (part x w1 w2) c 6 W _ 6 7 rfl rfl 2 2 0 0 rfl rfl) $$ [HO D6 S06 S16]
  · isplitr; · iexact HR
    isplitl [HO]; · iexact HO
    isplitl [D6]; · iexact D6
    isplitl [S06]; · iexact S06
    iexact S16
  iintro HO
  iapply (wp_load 𝒱₀ (c : Thread nD τ) none Set.univ (m := xM) (Finset.subset_univ _)) $$ Hx; iintro Hx
  rw [ld_x, wp_ret]; imodintro
  iapply (wp_load 𝒱₀ (c : Thread nD τ) none Set.univ (m := w1M) (Finset.subset_univ _)) $$ Hw1; iintro Hw1
  rw [ld_w1, wp_ret]; imodintro
  iapply (wp_load 𝒱₀ (c : Thread nD τ) none Set.univ (m := w2M) (Finset.subset_univ _)) $$ Hw2; iintro Hw2
  rw [ld_w2, wp_ret]; imodintro
  iapply (ldHalf_rule c 0 f _) $$ Ha0; iintro %v Ha0
  iapply (stHalf_rule c 0 f _ _) $$ Ha0; iintro Ha0
  iapply (bar_rule (part x w1 w2) K c W _) $$ [HO HatB HcB]
  · isplitr; · iexact HR
    isplitr; · iexact Hlev
    isplitl [HO]; · rw [← dueB_end]; iexact HO
    isplitl [HatB]; · iexact HatB
    iexact HcB
  iintro ⟨⟨%W', HO⟩, HzB, Hland⟩
  ihave H := (bundle_start (part x w1 w2) K c W') $$ [HO HatL HatV HcV Htl Htr Hland]
  · isplitr; · iexact HR
    isplitr; · iexact Hlev
    isplitl [HO]; · iexact HO
    isplitl [HatL]; · iexact HatL
    isplitl [HatV]; · iexact HatV
    isplitl [HcV]; · iexact HcV
    isplitl [Htl]; · iexact Htl
    isplitl [Htr]; · iexact Htr
    iexact Hland
  iapply (rsSend4_rule (part x w1 w2) K c 0 0 (by decide) 0 0 0 (by decide) (by decide) (by decide) _) $$ [H Ha0]
  · isplitl [H]; · iexact H
    iexact Ha0
  iintro ⟨H, Ha0⟩
  iapply (ldHalf_rule c 1 f _) $$ Ha1; iintro %v' Ha1
  iapply (stHalf_rule c 1 f _ _) $$ Ha1; iintro Ha1
  iapply (hmid _) $$ [H Ha0 Ha1]
  · isplitl [H]; · iexact H
    isplitl [Ha0]; · iexact Ha0
    iexact Ha1
  iintro ⟨H, Ha0, Ha1, Hs0, Hs1⟩
  ihave Ha := (Entails.of_eq (accP_whole c fullShare (fin (part x w1 w2))).symm) $$ [Ha0 Ha1]
  · isplitl [Ha0] <;> iassumption
  iapply (wp_load 𝒱₀ (c : Thread nD τ) none Set.univ (m := accM) (Finset.subset_univ _)) $$ Ha; iintro Ha
  rw [ld_acc, wp_ret]; imodintro
  iapply (wp_load 𝒱₀ (c : Thread nD τ) none Set.univ (m := outM) (Finset.subset_univ _)) $$ Hout; iintro Hout
  rw [wp_ret]; imodintro
  iapply (wp_store 𝒱₀ (c : Thread nD τ) none Set.univ (m := outM)
    (r := Rect.unit (s := S1024x1024) ![0, 0] S1024x1024.size inb_S1024x1024_S1024x1024_0_0) (Mk := Finset.univ) (Finset.subset_univ _)) $$ Hout; iintro Hout
  rw [st_out, wp_ret]; imodintro
  ihave H := (bundle_stop (part x w1 w2) K c) $$ H
  icases H with ⟨HO, Hz, HL⟩
  imod (close_lanes (part x w1 w2) K c) $$ [HL] with HzL
  · isplitr; · iexact HR
    iexact HL
  imod (close_unused (part x w1 w2) K c) $$ [HatU] with HzU
  · isplitr; · iexact HR
    iexact HatU
  rw [Prog.pure_eq_ret, wp_ret]; imodintro
  iapply HQ
  isplitl [Ha Hs0 Hs1 Hr0 Hr1 HzB Hz HzL HzU]
  · unfold stop scr
    rw [sems_split, recv_split, stE_whole, stages_eq, stages_eq]
    unfold stages
    isplitl [Ha Hs0 Hs1 Hr0 Hr1]
    · isplitl [Ha]; · iexists _; iexact Ha
      isplitl [Hs0 Hr0]
      · isplitl [Hs0]; · iexact Hs0
        iexact Hr0
      isplitl [Hs1]; · iexact Hs1
      iexact Hr1
    isplitl [HzB]; · iexact HzB
    isplitl [HzL]; · iexact HzL
    isplitl [Hz]; · iexact Hz
    iexact HzU
  isplitl [HO]; · iexact HO
  isplitl [Hx]; · iexact Hx
  isplitl [Hw1]; · iexact Hw1
  isplitl [Hw2]; · iexact Hw2
  iexact Hout

end

end Cert.KernelIdeal.Gen

end
-- ==== Proof.Deal.lean ====
module

public import proofs.«01_k».proof.Proof.Body
public import proofs.«01_k».proof.Proof.Gen.KernelIdeal.Launch
public import Idealize.ShloMosaic.Lib.Pipeline.Launch
public import Idealize.ShloMosaic.Lib.Pipeline.Kit

@[expose] public section

/-! # Dealing the tokens

At the start all cells of all devices are set up together, and every token goes to the device that will pay with it. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Fin 2 → Dev nD → Full F)

/-! ## Cells and tokens -/

def allCells : Finset (GSem nD τ sig) := Finset.univ.map ⟨kcell, kcell_injective⟩

/-- The tokens of one device's cells: the seven of its barrier, and for each exchange the one of its lane and the one of its
    receive semaphore. -/
abbrev Tk : Type := Fin 7 ⊕ ({t : Tr // t ∈ T} ⊕ {t : Tr // t ∈ T})
def tkCell : Tk → Ck
  | .inl _ => .inl ()
  | .inr (.inl t) => .inr (.inl (lane t.1))
  | .inr (.inr t) => .inr (.inr t.1)
def tkRest : Tk → ℕ × Fin 7
  | .inl j => (0, j)
  | .inr (.inl t) => (rnd t.1, 0)
  | .inr (.inr _) => (0, 0)
def tokOf (x : Dev nD × Tk) : GSem nD τ sig × ℕ × Fin 7 := (kcell (x.1, tkCell x.2), tkRest x.2)

theorem tk_injective (a b : Tk) (h : tkCell a = tkCell b) (h' : tkRest a = tkRest b) : a = b := by
  rcases a with j | t | t <;> rcases b with j' | t' | t' <;> dsimp only [tkCell, tkRest] at h h'
  · exact congrArg _ (congrArg Prod.snd h')
  · cases h
  · cases h
  · cases h
  · have h1 : lane t.1 = lane t'.1 := Sum.inl.inj (Sum.inr.inj h)
    have h2 : rnd t.1 = rnd t'.1 := congrArg Prod.fst h'
    have h3 := user_rnd t.1 t.2
    rw [h1, h2, user_rnd t'.1 t'.2] at h3
    exact congrArg _ (congrArg _ (Subtype.ext (Option.some.inj h3).symm))
  · cases h
  · cases h
  · cases h
  · exact congrArg _ (congrArg _ (Subtype.ext (Sum.inr.inj (Sum.inr.inj h))))
theorem tokOf_injective : Function.Injective tokOf := by
  rintro ⟨c, a⟩ ⟨c', b⟩ h
  have h1 := kcell_injective (congrArg Prod.fst h)
  have h2 : tkRest a = tkRest b := congrArg Prod.snd h
  rw [show c = c' from congrArg Prod.fst h1, tk_injective a b (congrArg Prod.snd h1) h2]
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The tokens of device `c`'s own cells. -/
def toks (c : Dev nD) : sProp 𝕄 :=
  iprop((bigSep Finset.univ fun j : Fin 7 => dutyTok ER (barCell c) 0 j)
    ∗ (bigSepL T fun t => dutyTok ER (laneCell c (lane t)) (rnd t) 0) ∗ bigSepL T fun t => dutyTok ER (recvCell c t) 0 0)
/-- The tokens of the cells that device `c` pays. -/
def payToks (c : Dev nD) : sProp 𝕄 :=
  iprop((bigSep Finset.univ fun j : Fin 7 => dutyTok ER (barCell (bpeer c j)) 0 j)
    ∗ (bigSepL T fun t => dutyTok ER (laneCell c (lane t)) (rnd t) 0) ∗ bigSepL T fun t => dutyTok ER (recvCell (dest c t) t) 0 0)

/-- What device `c` is dealt first, -/
def G (c : Dev nD) : sProp 𝕄 :=
  iprop((bigSep Finset.univ fun k : Ck => roundState ER (Rd X) (kcell (c, k)) 0)
    ∗ (bigSep Finset.univ fun k : Ck => iprop(atPos ER (kcell (c, k)) 0 ∅ 0 ∗ reached ER (kcell (c, k)) 0)) ∗ toks c)
/-- and what all devices together make of it. -/
def G' (c : Dev nD) : sProp 𝕄 := iprop(∃ K, ghost X K c)

theorem sum_split {A B : Type} [Fintype A] [Fintype B] (Φ : A ⊕ B → sProp 𝕄) :
    bigSep Finset.univ Φ = iprop((bigSep Finset.univ fun a => Φ (.inl a)) ∗ bigSep Finset.univ fun b => Φ (.inr b)) := BI.bigSep_univ_sum Φ

theorem sub_list (Φ : Tr → sProp 𝕄) : (bigSep Finset.univ fun t : {t : Tr // t ∈ T} => Φ t.1) = bigSepL T Φ := by
  rw [listT, ← show Finset.univ.filter (fun t : Tr => t ∈ T) = T.toFinset from by
    ext t; rw [Finset.mem_filter, List.mem_toFinset]; exact and_iff_right (Finset.mem_univ t)]
  convert BI.bigSep_subtype (fun t : Tr => t ∈ T) Φ

theorem toks_eq (c : Dev nD) : (bigSep Finset.univ fun a : Tk => dutyTok ER (tokOf (c, a)).1 (tokOf (c, a)).2.1 (tokOf (c, a)).2.2) = (toks c : sProp 𝕄) := by
  rw [sum_split, sum_split]
  unfold toks
  rw [← sub_list, ← sub_list]
  rfl

theorem fund_all : BI.own (ER (initOf allCells allToks)) ⊢ (|==> bigSep Finset.univ (G X) : sProp 𝕄) := by
  have hX (Φ : GSem nD τ sig → sProp 𝕄) : bigSep allCells Φ = bigSep Finset.univ fun c : Dev nD => bigSep Finset.univ fun k : Ck => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_eq c
  iintro HX
  imod (Rounds.fund ER (Rd X) allCells allToks) $$ HX with ⟨Hst, Hr, Hat, Htok⟩
  imodintro
  ihave Hst := (Entails.of_eq (hX fun g => roundState ER (Rd X) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at zero -/

theorem unscoped_eq (c : Dev nD) : (unscopedSems0 c : sProp 𝕄) = semVal (barCell c) 0 := by
  unfold unscopedSems0; rw [bigSep_eq_bigSepL_of_eq [SemLoc.reg barS] (by decide) (by decide)]; rfl
theorem own_eq (c : Dev nD) : (Pipeline.ownSems0 (Ix := Unit) (Name := ℕ) (U := UU) (Lvl := ℕ) (Val := Elt F) (τ := τ) osem c : sProp 𝕄)
    = bigSep Finset.univ fun k : Ln ⊕ Tr => semVal (kcell (c, .inr k)) 0 := rfl

theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Ck => semVal (kcell (c, k)) 0 : sProp 𝕄) := by
  rw [own_eq, unscoped_eq, sum_split fun k : Ck => (semVal (kcell (c, k)) 0 : sProp 𝕄),
    show (Finset.univ : Finset Unit) = {()} from rfl, bigSep_singleton]
  iintro ⟨HO, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) := by
  have h : iprop((bigSep Finset.univ fun k : Ck => semVal (kcell (c, k)) 0) ∗ bigSep Finset.univ fun k : Ck => roundState ER (Rd X) (kcell (c, k)) 0)
      ⊢ (|={Set.univ}=> bigSep Finset.univ fun k => iprop(∃ κ : ℕ, cellInv ER (Rd X) κ (kcell (c, k))) : sProp 𝕄) := by
    rw [← bigSep_sep']
    exact (bigSep_mono fun k _ => (Rounds.body_intro ER (Rd X) (kcell (c, k))).trans inv_alloc).trans (bigSep_fupd _ _)
  unfold G
  iintro ⟨Hos, Hus, Hst, Hat, Htok⟩
  ihave Hv := (sems_eq (F := F) c) $$ [Hos Hus]
  · isplitl [Hos] <;> iassumption
  imod h $$ [Hv Hst] with Hinv
  · isplitl [Hv] <;> iassumption
  imodintro
  isplitl [Hinv]; · iexact Hinv
  isplitl [Hat]; · iexact Hat
  iexact Htok

/-! ## Every token to its payer -/

def bpeerEquiv (j : Fin 7) : Dev nD ≃ Dev nD := ⟨fun c => bpeer c j, fun c => bpeer c j, fun c => bpeer_bpeer c j, fun c => bpeer_bpeer c j⟩
def destEquiv (t : Tr) : Dev nD ≃ Dev nD := ⟨fun c => dest c t, fun c => dest c t, fun c => dest_dest c t, fun c => dest_dest c t⟩

theorem toks_around : (bigSep Finset.univ fun c : Dev nD => (toks c : sProp 𝕄)) = bigSep Finset.univ fun c : Dev nD => payToks c := by
  have h1 : (bigSep Finset.univ fun c : Dev nD => bigSep Finset.univ fun j : Fin 7 => (dutyTok ER (barCell c) 0 j : sProp 𝕄))
      = bigSep Finset.univ fun c : Dev nD => bigSep Finset.univ fun j : Fin 7 => dutyTok ER (barCell (bpeer c j)) 0 j := by
    rw [bigSep_univ_comm, BI.bigSep_congr fun j _ => bigSep_univ_equiv (bpeerEquiv j) fun c : Dev nD => (dutyTok ER (barCell c) 0 j : sProp 𝕄), bigSep_univ_comm]
    rfl
  have h2 : (bigSep Finset.univ fun c : Dev nD => bigSepL T fun t => (dutyTok ER (recvCell c t) 0 0 : sProp 𝕄))
      = bigSep Finset.univ fun c : Dev nD => bigSepL T fun t => dutyTok ER (recvCell (dest c t) t) 0 0 := by
    simp only [← sub_list]
    rw [bigSep_univ_comm, BI.bigSep_congr fun t _ => bigSep_univ_equiv (destEquiv t.1) fun c : Dev nD => (dutyTok ER (recvCell c t.1) 0 0 : sProp 𝕄), bigSep_univ_comm]
    rfl
  unfold toks payToks
  rw [bigSep_sep', bigSep_sep', bigSep_sep', bigSep_sep', h1, h2]

/-- What stays with device `c`. -/
def linear (c : Dev nD) : sProp 𝕄 := iprop((bigSep Finset.univ fun k : Ck => atPos ER (kcell (c, k)) 0 ∅ 0) ∗ payToks c)

theorem ghost_intro (K : Dev nD × Ck → ℕ) (c : Dev nD) : iprop(recs X K ∗ linear c) ⊢ G' X c := by
  unfold linear payToks G' ghost
  rw [sum_split, sum_split, show (Finset.univ : Finset Unit) = {()} from rfl, bigSep_singleton]
  iintro ⟨#HR, ⟨HaB, HaL, HaV⟩, H1, H2, H3⟩
  iexists K
  isplitr; · iexact HR
  isplitl [HaB]; · iexact HaB
  isplitl [HaL]; · iexact HaL
  isplitl [HaV]; · iexact HaV
  isplitl [H1]; · iexact H1
  isplitl [H2] <;> iassumption

theorem all_intro (K : Dev nD × Ck → ℕ) : iprop(recs X K ∗ bigSep Finset.univ (linear (F := F))) ⊢ bigSep Finset.univ (G' X) :=
  (sep_mono_left (BI.bigSep_of_persistent (Finset.univ : Finset (Dev nD)) (recs X K))).trans (by
    rw [← bigSep_sep']; exact bigSep_mono fun c _ => ghost_intro X K c)

theorem regroup :
    (bigSep Finset.univ fun c : Dev nD => iprop((bigSep Finset.univ fun k => iprop(∃ κ : ℕ, cellInv ER (Rd X) κ (kcell (c, k))))
          ∗ (bigSep Finset.univ fun k => iprop(atPos ER (kcell (c, k)) 0 ∅ 0 ∗ reached ER (kcell (c, k)) 0)) ∗ toks c) : sProp 𝕄)
      ⊢ bigSep Finset.univ (G' X) := by
  have hlin : iprop((bigSep Finset.univ fun c : Dev nD => bigSep Finset.univ fun k : Ck => (atPos ER (kcell (c, k)) 0 ∅ 0 : sProp 𝕄))
      ∗ bigSep Finset.univ fun c : Dev nD => payToks c) = bigSep Finset.univ (linear (F := F)) := by
    rw [← bigSep_sep']; rfl
  have hrecs (K : Dev nD × Ck → ℕ) : iprop((bigSep Finset.univ fun ck : Dev nD × Ck => (cellInv ER (Rd X) (K ck) (kcell ck) : sProp 𝕄))
      ∗ bigSep Finset.univ fun ck : Dev nD × Ck => reached ER (kcell ck) 0) = recs X K := by
    rw [← bigSep_sep']; rfl
  rw [bigSep_sep', bigSep_sep', ← bigSep_univ_prod (fun ck : Dev nD × Ck => iprop(∃ κ : ℕ, cellInv ER (Rd X) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄)), toks_around]
  iintro ⟨HI, ⟨Hat, HR⟩, Htok⟩
  ihave HK := (BI.bigSep_exists_pi Finset.univ (fun (ck : Dev nD × Ck) (κ : ℕ) => (cellInv ER (Rd X) κ (kcell ck) : sProp 𝕄))) $$ HI
  icases HK with ⟨%K, HI⟩
  iapply (all_intro X K)
  isplitl [HI HR]
  · rw [← hrecs]
    isplitl [HI] <;> iassumption
  rw [← hlin]
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit of the start -/

theorem cred_peer (k : Ck) (f : Dev nD → Dev nD) (hf : ∀ c, f (f c) = c) (n : ℕ) (c : Dev nD) :
    (Pipeline.launchCred (fun d => tallyAt (kcell (f d, k)) () n) c : sProp 𝕄) ⊢ cred (tallyAt (kcell (c, k)) () n) :=
  Pipeline.launchCred_tallyAt (csem k) f f hf hf () n c

theorem cred_list {A : Type} (l : List A) (D : A → Dev nD → CellTallies nD τ sig Unit) (c : Dev nD) :
    (Pipeline.launchCred (fun d => (l.map fun a => D a d).sum) c : sProp 𝕄) = bigSepL l fun a => Pipeline.launchCred (D a) c := by
  induction l with
  | nil => exact Pipeline.launchCred_zero c
  | cons a l ih =>
    rw [bigSepL_cons', ← ih, ← Pipeline.launchCred_add]; rfl

theorem creds (c : Dev nD) :
    (Pipeline.launchCred (fun d => dueB d 0) c : sProp 𝕄)
      ⊢ iprop(cred (tallyAt (barCell c) () 7) ∗ bigSepL T fun t => cred (tallyAt (recvCell c t) () (cr t.2.2.1))) := by
  have h7 : (bigSepL (List.finRange 7) fun _ => (cred (tallyAt (barCell c) () 1) : sProp 𝕄)) ⊢ cred (tallyAt (barCell c) () 7) := by
    rw [← bigSep_univ_eq_bigSepL (List.finRange 7) (by decide) (List.nodup_finRange 7), ← Pipeline.cred_finsetSum]
    refine Entails.of_eq (congrArg cred ?_)
    rw [Finset.sum_const, Finset.card_univ, Fintype.card_fin]
    simp only [succ_nsmul, zero_nsmul, zero_add, tallyAt_add]
  rw [show (fun d : Dev nD => dueB d 0) = fun d => (T.map fun t => tallyAt (recvCell (dest d t) t) () (cr t.2.2.1)).sum
      + ((List.finRange 7).map fun j => tallyAt (barCell (bpeer d j)) () 1).sum from rfl, Pipeline.launchCred_add, cred_list, cred_list]
  iintro ⟨H1, H2⟩
  isplitl [H2]
  · iapply h7
    iapply (bigSepL_mono fun j _ => cred_peer (.inl ()) (fun d => bpeer d j) (fun d => bpeer_bpeer d j) 1 c); iexact H2
  iapply (bigSepL_mono fun t _ => cred_peer (.inr (.inr t)) (fun d => dest d t) (fun d => dest_dest d t) (cr t.2.2.1) c); iexact H1

end Cert.KernelIdeal.Gen

end
-- ==== Proof.Run.lean ====
module

public import proofs.«01_k».proof.Proof.Deal
public import Idealize.ShloMosaic.Lib.Pipeline.CollectiveSegs
public import Idealize.ShloMosaic.Lib.Pipeline.ValueKit.Geometry

@[expose] public section

/-! # The run of the whole program

All devices start together; the tokens of every cell are dealt to the devices that pay. The run ends with every device
holding the same result, its arguments as they were, and all semaphores at zero. -/

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the devices hold -/

/-- The state at the start. -/
abbrev st₀ : MemSt nD τ sig (Elt F) := ⟨m, fun _ => 0, ρ⟩

def xIn (c : Dev nD) : Vec F S1024x1024 .bf16 := (win0_0.blk (0 : Fin 1)).view.read (Elt F) (m ((c : Thread nD τ).loc main_arg0))
def w1In (c : Dev nD) : Vec F S1024x2048 .bf16 := (win0_1.blk (0 : Fin 1)).view.read (Elt F) (m ((c : Thread nD τ).loc main_arg1))
def w2In (c : Dev nD) : Vec F S2048x1024 .bf16 := (win0_2.blk (0 : Fin 1)).view.read (Elt F) (m ((c : Thread nD τ).loc main_arg2))

/-- The products of the devices. -/
abbrev XX : Fin 2 → Dev nD → Full F := part (xIn m) (w1In m) (w2In m)
/-- The result, the same on every device. -/
def res : Vec F S1024x1024 .f32 := k0_pay11 (fin (XX m))

/-- What a device's body starts from. -/
def Φ₀ (c : Dev nD) : sProp 𝕄 := iprop(start (XX m) c ∗ scr c)

def dats (_ : Fin 1) (c : Dev nD) : Dat τ (Elt F) Unit ℕ UU ℕ cfg0 c where
  A w := (st₀ m ρ).mem ((cfg0.win w).arr.view.loc (c : Thread nD τ))
  after w _ := match w with
    | ⟨0, _⟩ => xIn m c
    | ⟨1, _⟩ => w1In m c
    | ⟨2, _⟩ => w2In m c
    | ⟨3, _⟩ => res m
  Φ t := match t with
    | ⟨0, _⟩ => Φ₀ m c
    | ⟨_ + 1, _⟩ => stop c
  q _ := fullShare
  owed t := match t with
    | ⟨0, _⟩ => dueB c 0
    | ⟨_ + 1, _⟩ => 0

theorem fetch_in (w : Fin 4) (hw : w ≠ 3) (t : Fin cfg0.N) : (cfg0.win w).fetch t = true := by
  rw [fin_N0 t]; revert w; decide

theorem windows (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_buf (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) (((c : Dev nD) : Thread nD τ).loc b), ⌜g = f⌝ ∗ (((c : Thread nD τ).loc b) ↦{fullShare} g)) := by
  unfold owns; simp only [Memref.view_whole, View.read_whole, View.set_whole]

/-! ## The body -/

abbrev stg (c : Dev nD) (b : Ref sig .tc) (f : b.ty.Contents (Elt F)) : sProp 𝕄 :=
  iprop(∃ g : Buf (Elt F) (((c : Dev nD) : Thread nD τ).loc b), ⌜g = f⌝ ∗ (((c : Thread nD τ).loc b) ↦{fullShare} g))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ ∃ d, stg c cc0_stg3_0 ((dats m ρ 0 c).before (3 : Fin 4) t0_0 d))

def bodyPost (c : Dev nD) : sProp 𝕄 :=
  iprop(stop c ∗ (dats m ρ 0 c).owesAt () t0_0.succ ∗ stg c cc0_stg0_0 (xIn m c) ∗ stg c cc0_stg1_0 (w1In m c) ∗ stg c cc0_stg2_0 (w2In m c)
    ∗ stg c cc0_stg3_0 (res m))

theorem before_x (c : Dev nD) (d) : (dats m ρ 0 c).before (0 : Fin 4) t0_0 d = xIn m c := by
  unfold Dat.before; rw [if_pos (fetch_in 0 (by decide) t0_0)]; rfl
theorem before_w1 (c : Dev nD) (d) : (dats m ρ 0 c).before (1 : Fin 4) t0_0 d = w1In m c := by
  unfold Dat.before; rw [if_pos (fetch_in 1 (by decide) t0_0)]; rfl
theorem before_w2 (c : Dev nD) (d) : (dats m ρ 0 c).before (2 : Fin 4) t0_0 d = w2In m c := by
  unfold Dat.before; rw [if_pos (fetch_in 2 (by decide) t0_0)]; rfl

theorem body_run (c : Dev nD) : bodyPre m ρ c ⊢ wpc c (steps F) (fun _ => bodyPost m ρ c) := by
  unfold bodyPre Φ₀ start Dat.owesAt Pipeline.owesWithin
  rw [show (dats m ρ 0 c).owed t0_0.castSucc = dueB c 0 from rfl]
  simp only [before_x, before_w1, before_w2]
  iintro ⟨⟨⟨⟨%K, Hg⟩, H1, H2, H3⟩, Hscr⟩, ⟨%W, %hW, HO⟩, ⟨%d0, %g0, %hg0, Hx⟩, ⟨%d1, %g1, %hg1, Hw1⟩, ⟨%d2, %g2, %hg2, Hw2⟩, ⟨%d3, %g3, %hg3, Hout⟩⟩
  subst hg0 hg1 hg2
  iapply (steps_rule (xIn m) (w1In m) (w2In m) K c W (fun _ => bodyPost m ρ c)) $$ [Hg H1 H2 H3 Hscr HO Hx Hw1 Hw2 Hout]
  · isplitl [Hg]; · iexact Hg
    isplitl [H1]; · iexact H1
    isplitl [H2]; · iexact H2
    isplitl [H3]; · iexact H3
    isplitl [Hscr]; · iexact Hscr
    isplitl [HO]; · iexact HO
    isplitl [Hx]; · iexact Hx
    isplitl [Hw1]; · iexact Hw1
    isplitl [Hw2]; · iexact Hw2
    iexists g3; iexact Hout
  iintro ⟨Hs, ⟨%W', HO⟩, Hx, Hw1, Hw2, Hout⟩
  unfold bodyPost Dat.owesAt Pipeline.owesWithin
  rw [show (dats m ρ 0 c).owed t0_0.succ = 0 from rfl]
  isplitl [Hs]; · iexact Hs
  isplitl [HO]
  · iexists W'
    isplitr; · ipureintro; exact fun _ _ => Or.inl trivial
    iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

theorem body_prog : defs₀ (F := F) .tc 0 (t0_0, cfg0.slots t0_0) = steps F := by
  rw [← body_steps]; rfl

set_option maxRecDepth 100000 in
theorem body_obligation (c : Dev nD) : BodyObligation (dats (F := F) m ρ 0 c) (defs₀ (F := F)) 𝒱₀ () Set.univ := fun t => by
  rw [fin_N0 t]
  rw [windows, windows]
  simp only [owns_buf]
  have h := body_run m ρ c
  unfold bodyPre bodyPost at h
  rw [body_prog, show (dats m ρ 0 c).Φ t0_0.castSucc = Φ₀ m c from rfl, show (dats m ρ 0 c).Φ t0_0.succ = stop c from rfl,
    show (dats m ρ 0 c).after (0 : Fin 4) t0_0 = xIn m c from rfl, show (dats m ρ 0 c).after (1 : Fin 4) t0_0 = w1In m c from rfl,
    show (dats m ρ 0 c).after (2 : Fin 4) t0_0 = w2In m c from rfl, show (dats m ρ 0 c).after (3 : Fin 4) t0_0 = res m from rfl]
  exact h

/-! ## The launch -/

theorem osem_facts : Pipeline.OwnSemFacts cfg0.spec osem := ⟨by decide, osem_injective, by decide +kernel⟩

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => dueB d 0) c ∗ prngReg c (ρ c) ∗ G' (XX m) c)
      ⊢ |={Set.univ}=> iprop(start (XX m) c ∗ emp) := by
  iintro ⟨-, Hlev, Hcr, -, HG⟩
  ihave Hc := (creds (F := F) c) $$ Hcr
  icases Hc with ⟨H7, HT⟩
  imodintro
  unfold start G'
  isplitl
  · isplitl [HG]; · iexact HG
    isplitl [H7]; · iexact H7
    isplitl [HT] <;> iassumption
  · iempintro

theorem first_intro (c : Dev nD) :
    iprop(start (XX m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs] <;> iassumption

theorem last_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = stop c from rfl, scopedRest0_eq, own_eq, unscoped_eq]
  unfold stop scr
  iintro ⟨Hr, HB, HS⟩
  isplitl [HB]; · iexact HB
  isplitl [HS] <;> iassumption

theorem stage_decode (w : Fin cfg0.W) (s : Fin ((cfg0.win w).nbuf)) : decode (.dma ((cfg0.win w).sem s)) = none := by
  have h : ¬ ∃ k, csem k = .dma ((cfg0.win w).sem s) := by
    rintro ⟨_ | k, hk⟩
    · cases hk
    · exact osem_facts.disj k w s hk
  exact dif_neg h

set_option maxRecDepth 100000 in
theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_decode w s) _ (by
      rcases t with ⟨_ | _, ht⟩
      · exact Or.inl rfl
      · exact Or.inr rfl)

/-- Every array at what the pipeline leaves in it. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 100000 in
/-- All fair runs end, with every array at what the pipeline leaves in it and every semaphore at zero. -/
theorem run_launch : θ_run defs (onTc (τ := τ) (main (F := F))) (st₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun c => dueB c 0) (howed₀ := fun _ => rfl) (howedN := fun _ => rfl)
    (L := L) (lv := lv) (hL := L_of_ne) (hwaits := waits m ρ)
    (G := G (XX m)) (G' := G' (XX m)) (u₀ := u₀)
    (hu₀ := by
      unfold u₀
      iintro Hu
      ihave H := (ownU_pair _ _) $$ Hu
      icases H with ⟨HP, HX⟩
      imod (fund_all (XX m)) $$ HX with HG
      imodintro
      isplitl [HP] <;> iassumption)
    (hglob := glob (XX m))
    (hA := fun _ _ => rfl) (hpf := fun _ k => k.elim0)
    (X := start (XX m)) (Y := fun c => unscopedSems0 c) (Z := fun _ => iprop(emp))
    (hX := start_intro m ρ) (hin := first_intro m ρ) (hout := last_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The end -/

theorem res_at (c : Dev nD) : (dats m ρ 0 c).arrAt (3 : Fin 4) cfg0.N = res m := by
  refine (dats m ρ 0 c).arrAt_eq_of_after_last (3 : Fin 4) t0_0 (by decide +kernel) (res m) fun j => ?_
  rfl

/-- All fair runs end: every device then holds the same result, its arguments as they were, and every semaphore at zero. -/
theorem run_main : θ_run defs (onTc (τ := τ) (main (F := F))) (st₀ m ρ) (fun r =>
    (∀ c : Dev nD, r.2.mem ((c : Thread nD τ).loc main_v1) = res m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
    ∧ r.2.sem = fun _ => 0) :=
  (θ_run defs _ _).mono (fun _ h => ⟨fun c => ⟨(h.1 c (3 : Fin 4)).trans (res_at m ρ c),
    (h.1 c (0 : Fin 4)).trans ((dats (F := F) m ρ 0 c).arrAt_in (0 : Fin 4) rfl _),
    (h.1 c (1 : Fin 4)).trans ((dats (F := F) m ρ 0 c).arrAt_in (1 : Fin 4) rfl _),
    (h.1 c (2 : Fin 4)).trans ((dats (F := F) m ρ 0 c).arrAt_in (2 : Fin 4) rfl _)⟩, h.2⟩) (run_launch m ρ)

end Cert.KernelIdeal.Gen

end
-- ==== Proof.Sums.lean ====
module

public import proofs.«01_k».proof.Proof.Blocks
public import Idealize.ShloMosaic.Lib.ValueIdx

@[expose] public section

/-! # The three phases add up all devices

Over the reals: the device that keeps a row in the end has added the 32 devices' contents there, each once. -/

noncomputable section

namespace Cert.KernelIdeal.Gen

open Idealize.ShloMosaic Idealize.ShloMosaic.TcCoe

/-- The members of a group of four: the device and its three peers. -/
def mate (c : Dev nD) (s : Fin 2) (p : Fin 3) : Fin 4 → Dev nD
  | 0 => c | 1 => peer c s p 0 | 2 => peer c s p 1 | 3 => peer c s p 2
/-- The two of the last phase. -/
def pair (c : Dev nD) (s : Fin 2) : Fin 2 → Dev nD
  | 0 => c | 1 => peer c s 2 0

/-- Every device is reached once from a device `c`, by a step of each phase. -/
def reach (c : Dev nD) (s : Fin 2) (t : Fin 2 × Fin 4 × Fin 4) : Dev nD := mate (mate (pair c s t.1) s 1 t.2.1) s 0 t.2.2
theorem reach_onto : ∀ (c : Dev nD) (s : Fin 2) (d : Dev nD), ∃ t, reach c s t = d := by decide +kernel
theorem reach_bijective (c : Dev nD) (s : Fin 2) : Function.Bijective (reach c s) :=
  (Fintype.bijective_iff_surjective_and_card _).mpr ⟨reach_onto c s, rfl⟩

variable (X : Fin 2 → Dev nD → Full Ideal)

theorem step4_sum (p : Fin 3) (s : Fin 2) (c : Dev nD) (i : S1024x1024.Idx) :
    (step4 p X s c i : EReal) = ∑ k : Fin 4, (X s (mate c s p k) i : EReal) := by
  rw [Fin.sum_univ_four]
  show (X s c i + (X s _ i + X s _ i + X s _ i) : EReal) = X s c i + X s _ i + X s _ i + X s _ i
  rw [add_assoc (X s c i : EReal), add_assoc (X s c i : EReal)]
  rfl
theorem step2_sum (s : Fin 2) (c : Dev nD) (i : S1024x1024.Idx) :
    (step2 X s c i : EReal) = ∑ k : Fin 2, (X s (pair c s k) i : EReal) := by
  rw [Fin.sum_univ_two]; rfl

theorem aft_sum (s : Fin 2) (c : Dev nD) (i : S1024x1024.Idx) :
    (aft X 2 s c i : EReal) = ∑ d : Dev nD, (X s d i : EReal) := by
  show (step2 (step4 1 (step4 0 X)) s c i : EReal) = _
  rw [step2_sum, ← (reach_bijective c s).sum_comp fun d => (X s d i : EReal), Fintype.sum_prod_type]
  refine Finset.sum_congr rfl fun a _ => ?_
  rw [step4_sum, Fintype.sum_prod_type]
  exact Finset.sum_congr rfl fun b _ => step4_sum X 0 s _ i

end Cert.KernelIdeal.Gen

end
-- ==== Proof.Values.lean ====
module

public import proofs.«01_k».proof.Proof.Sums
public import proofs.«01_k».proof.Proof.Run
public import proofs.«01_k».proof.Proof.Gen.ReferenceIdeal.Run
public import Idealize.ShloMosaic.Lib.MatmulPlain
public import Idealize.ShloMosaic.Lib.StackMember
public import Idealize.ShloMosaic.Lib.IdealHost
public import Idealize.ShloMosaic.Lib.Layout
public import Idealize.ShloMosaic.Lib.Pointwise.Sums

@[expose] public section

/-! # What the kernel computes

Over the reals the result at row `r` and column `j` is the sum, over all 65536 hidden units, of the unit's activation in row
`r` times its weight for `j`. Every device sums its own 2048 units; the exchanges sum over the devices. -/

noncomputable section

namespace Cert.KernelIdeal.Gen

open Idealize.ShloMosaic hiding ix2
open Idealize.ShloMosaic.TcCoe Idealize.ShloMosaic.ValueIdx
open scoped BigOperators

/-- A unit's activation: the positive part of the row's product with the unit's column. -/
def act {n : ℕ} (x : FVec Ideal ⟨2, ![1024, 1024]⟩ .bf16) (w : FVec Ideal ⟨2, ![1024, n]⟩ .bf16) (r : Fin 1024) (k : Fin n) : EReal :=
  max (∑ j : Fin 1024, (x (ix2 r j) * w (ix2 j k) : EReal)) 0

/-! ## One device -/

theorem hidden_apply (x : Vec Ideal S1024x1024 .bf16) (w : Vec Ideal S1024x2048 .bf16) (r : Fin 1024) (k : Fin 2048) :
    k0_pay1 x w (ix2 r k) = act x w r k := by
  unfold k0_pay1
  rw [shapeCast_self, shapeCast_self]
  refine congrArg₂ max ((Ideal.matmul_plain_apply none x w _ r k).trans ?_) Ideal.ofBits_zero_f32
  exact (congrArg (· + _) Ideal.ofBits_zero_f32).trans (zero_add _)

/-- The product with 512 columns of the second matrix, from column `o` on. -/
theorem slab_apply (h : FVec Ideal S1024x2048 .bf16) (w : FVec Ideal S2048x1024 .bf16) (o : ℕ) (hs : S2048x1024.Slices ![0, o] S2048x512)
    (r : Fin 1024) (q : Fin 512) (j : Fin 1024) (hj : j.val = o + q.val) :
    matmul dot_S1024x2048_S2048x512_S1024x512_1_0_0_1_n_n none h (extractStridedSlice S2048x512 ![0, o] w hs)
        (constant S1024x512 .f32 0x00000000#32) (ix2 r q)
      = ∑ k : Fin 2048, (h (ix2 r k) * w (ix2 k j) : EReal) := by
  refine (Ideal.matmul_plain_apply none h _ _ r q).trans ((congrArg (· + _) Ideal.ofBits_zero_f32).trans ((zero_add _).trans ?_))
  refine Finset.sum_congr rfl fun k _ => congrArg (h (ix2 r k) * ·) ?_
  refine extractStridedSlice_apply _ w hs (ix2 k q) (ix2 k j) fun a => ?_
  match a with
  | ⟨0, _⟩ => exact (Nat.zero_add _).symm
  | ⟨1, _⟩ => exact hj

variable (x : Dev nD → Vec Ideal S1024x1024 .bf16) (w1 : Dev nD → Vec Ideal S1024x2048 .bf16) (w2 : Dev nD → Vec Ideal S2048x1024 .bf16)

/-- What one device adds to the result. -/
def share (c : Dev nD) (r j : Fin 1024) : EReal := ∑ k : Fin 2048, act (x c) (w1 c) r k * (w2 c (ix2 k j) : EReal)

theorem part_lo (c : Dev nD) (r j : Fin 1024) (h : j.val < 512) : part x w1 w2 0 c (ix2 r j) = share x w1 w2 c r j := by
  have e : part x w1 w2 0 c (ix2 r j) = k0_pay3 (k0_pay1 (x c) (w1 c)) (w2 c) (ix2 r ⟨j.val % 512, Nat.mod_lt _ (by decide)⟩) := by
    show k0_pay3 _ _ _ = _
    refine congrArg _ (funext fun a => ?_)
    match a with
    | ⟨0, _⟩ => rfl
    | ⟨1, _⟩ => rfl
  rw [e]
  unfold k0_pay3 k0_pay2
  dsimp only
  rw [shapeCast_self, shapeCast_self]
  refine (slab_apply _ (w2 c) 0 _ r _ j (by have : j.val % 512 = j.val := Nat.mod_eq_of_lt h; show j.val = 0 + j.val % 512; omega)).trans ?_
  exact Finset.sum_congr rfl fun k _ => congrArg (· * _) (hidden_apply (x c) (w1 c) r k)

theorem part_hi (c : Dev nD) (r j : Fin 1024) (h : ¬ j.val < 512) : part x w1 w2 1 c (ix2 r j) = share x w1 w2 c r j := by
  have e : part x w1 w2 1 c (ix2 r j) = k0_pay4 (k0_pay1 (x c) (w1 c)) (k0_pay2 (w2 c)) (ix2 r ⟨j.val % 512, Nat.mod_lt _ (by decide)⟩) := by
    show k0_pay4 _ _ _ = _
    refine congrArg _ (funext fun a => ?_)
    match a with
    | ⟨0, _⟩ => rfl
    | ⟨1, _⟩ => rfl
  rw [e]
  unfold k0_pay4 k0_pay2
  dsimp only
  rw [shapeCast_self, shapeCast_self]
  refine (slab_apply _ (w2 c) 512 _ r _ j (by have := j.isLt; show j.val = 512 + j.val % 512; omega)).trans ?_
  exact Finset.sum_congr rfl fun k _ => congrArg (· * _) (hidden_apply (x c) (w1 c) r k)

/-! ## All devices -/

theorem fin_apply (r j : Fin 1024) : fin (part x w1 w2) (ix2 r j) = ∑ c : Dev nD, share x w1 w2 c r j := by
  unfold fin
  split
  · next h => exact (aft_sum _ 0 _ _).trans (Finset.sum_congr rfl fun c _ => part_lo x w1 w2 c r j h)
  · next h => exact (aft_sum _ 1 _ _).trans (Finset.sum_congr rfl fun c _ => part_hi x w1 w2 c r j h)

/-- The reference's function of the whole arrays. -/
def mlp (x : FVec Ideal ⟨2, ![1024, 1024]⟩ .bf16) (W1 : FVec Ideal ⟨2, ![1024, 65536]⟩ .bf16) (W2 : FVec Ideal ⟨2, ![65536, 1024]⟩ .bf16)
    (r j : Fin 1024) : EReal := ∑ k : Fin 65536, act x W1 r k * (W2 (ix2 k j) : EReal)

/-- With the arrays cut as the program cuts them, the devices' sums are the whole sum. -/
theorem shares (X : FVec Ideal ⟨2, ![1024, 1024]⟩ .bf16) (W1 : FVec Ideal ⟨2, ![1024, 65536]⟩ .bf16) (W2 : FVec Ideal ⟨2, ![65536, 1024]⟩ .bf16)
    (hx : ∀ c, x c = X) (h1 : ∀ c, w1 c = Layout.block ⟨2, ![1024, 2048]⟩ ⟨2, ![1024, 65536]⟩ 1 32 c W1)
    (h2 : ∀ c, w2 c = Layout.block ⟨2, ![2048, 1024]⟩ ⟨2, ![65536, 1024]⟩ 0 32 c W2) (r j : Fin 1024) :
    ∑ c : Dev nD, share x w1 w2 c r j = mlp X W1 W2 r j := by
  unfold mlp
  refine Eq.trans ?_ (Fin.sum_univ_tiles 32 2048 (by decide) fun k : Fin 65536 => (act X W1 r k * (W2 (ix2 k j) : EReal) : EReal)).symm
  refine Finset.sum_congr rfl fun c _ => Finset.sum_congr rfl fun k _ => ?_
  rw [hx, h1, h2]
  refine congrArg₂ (· * ·) ?_ ?_
  · unfold act
    refine congrArg (max · 0) (Finset.sum_congr rfl fun i _ => congrArg (X (ix2 r i) * ·) ?_)
    rw [Layout.block_apply]
    refine congrArg W1 (funext fun a => ?_)
    match a with
    | ⟨0, _⟩ => exact Fin.ext rfl
    | ⟨1, _⟩ => exact Fin.ext rfl
  · rw [Layout.block_apply]
    refine congrArg W2 (funext fun a => ?_)
    match a with
    | ⟨0, _⟩ => exact Fin.ext rfl
    | ⟨1, _⟩ => exact Fin.ext rfl

/-! ## The run's result -/

variable (m : (ℓ : Loc nD τ sig) → Buf (Elt Ideal) ℓ) (c : Dev nD)

/-! Every window is its whole array. -/
theorem from_zero (n k : ℕ) : 0 * n + 1 * k = k := by omega
theorem xIn_eq : xIn m c = m ((c : Thread nD τ).loc main_arg0) := by
  funext i
  show m ((c : Thread nD τ).loc main_arg0) _ = m ((c : Thread nD τ).loc main_arg0) i
  exact congrArg _ (funext fun a => Fin.ext (from_zero _ _))
theorem w1In_eq : w1In m c = m ((c : Thread nD τ).loc main_arg1) := by
  funext i
  show m ((c : Thread nD τ).loc main_arg1) _ = m ((c : Thread nD τ).loc main_arg1) i
  exact congrArg _ (funext fun a => Fin.ext (from_zero _ _))
theorem w2In_eq : w2In m c = m ((c : Thread nD τ).loc main_arg2) := by
  funext i
  show m ((c : Thread nD τ).loc main_arg2) _ = m ((c : Thread nD τ).loc main_arg2) i
  exact congrArg _ (funext fun a => Fin.ext (from_zero _ _))

theorem res_apply (X : FVec Ideal ⟨2, ![1024, 1024]⟩ .bf16) (W1 : FVec Ideal ⟨2, ![1024, 65536]⟩ .bf16) (W2 : FVec Ideal ⟨2, ![65536, 1024]⟩ .bf16)
    (hx : ∀ c : Dev nD, m ((c : Thread nD τ).loc main_arg0) = X)
    (h1 : ∀ c : Dev nD, m ((c : Thread nD τ).loc main_arg1) = Layout.block ⟨2, ![1024, 2048]⟩ ⟨2, ![1024, 65536]⟩ 1 32 c W1)
    (h2 : ∀ c : Dev nD, m ((c : Thread nD τ).loc main_arg2) = Layout.block ⟨2, ![2048, 1024]⟩ ⟨2, ![65536, 1024]⟩ 0 32 c W2)
    (r j : Fin 1024) : res m (ix2 r j) = mlp X W1 W2 r j :=
  (fin_apply _ _ _ r j).trans (shares _ _ _ X W1 W2 (fun c => (xIn_eq m c).trans (hx c)) (fun c => (w1In_eq m c).trans (h1 c))
    (fun c => (w2In_eq m c).trans (h2 c)) r j)

end Cert.KernelIdeal.Gen

namespace Cert.ReferenceIdeal.Gen

open Idealize.ShloMosaic hiding ix2
open Idealize.ShloMosaic.ValueIdx Cert.KernelIdeal.Gen

theorem ref_apply (x : FVec Ideal S1024x1024 .bf16) (W1 : FVec Ideal S1024x65536 .bf16) (W2 : FVec Ideal S65536x1024 .bf16) (r j : Fin 1024) :
    Host.dotGeneral dot_S1024x65536_S65536x1024_S1024x1024_1_0_0_1_n_n none
      (maximumf (Host.dotGeneral dot_S1024x1024_S1024x65536_S1024x65536_1_0_0_1_n_n none (extf .f32 x bitsLt_bf16_f32) (extf .f32 W1 bitsLt_bf16_f32))
        (broadcastInDim S1024x65536 ![] bcast_S_S1024x65536 (constant S_ .f32 0x00000000#32))) (extf .f32 W2 bitsLt_bf16_f32) (ix2 r j)
      = mlp x W1 W2 r j := by
  refine (StackMember.dotGeneral_plain_apply none _ _ r j).trans ?_
  unfold mlp
  refine Finset.sum_congr rfl fun k _ => congrArg (· * _) ?_
  refine congrArg₂ max (StackMember.dotGeneral_plain_apply none _ _ r k) ?_
  exact (broadcastInDim_scalar_apply _ _ _).trans Ideal.ofBits_zero_f32

end Cert.ReferenceIdeal.Gen

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Values
public import Idealize.ShloMosaic.Adequacy
public import Idealize.ShloMosaic.Init

@[expose] public section

noncomputable section

namespace Cert.Proof

open Idealize.ShloMosaic Idealize.SL.Sem Cert.Kernel

/-- The frame of the kernel's text, over any float values. -/
def Quiet (F : FTy → Type) [FloatOps F] : Prop :=
  ∀ (m : (ℓ : Loc Cert.KernelIdeal.nD Cert.KernelIdeal.τ Cert.KernelIdeal.sig) → Buf (Elt F) ℓ) (ρ : Dev Cert.KernelIdeal.nD → PrngReg), True →
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem quiet (F : FTy → Type) [FloatOps F] : Quiet F := fun m ρ _ =>
  (θ_run Cert.KernelIdeal.defs _ _).mono (fun _ h => ⟨fun c => (h.1 c).2, h.2⟩) (Cert.KernelIdeal.Gen.run_main m ρ)

/-- The kernel and the ideal kernel have the same text. -/
theorem kernel_text : Cert.quiescent_Kernel = Quiet Bits := by chain_rfl

theorem frame_kernel : Cert.quiescent_Kernel := kernel_text ▸ quiet Bits

theorem frame_ideal : Cert.quiescent_KernelIdeal := quiet Ideal

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem algebraic : Cert.algebraic_KernelIdeal_ReferenceIdeal := fun m ρ m' ρ' _ h =>
  ⟨Cert.KernelIdeal.Gen.res m,
    (θ_run Cert.KernelIdeal.defs _ _).mono (fun _ e => e.1) (Cert.KernelIdeal.Gen.run_main m ρ),
    (θ_run Cert.ReferenceIdeal.defs _ _).mono (fun _ e => ⟨(e 0).1.trans (funext fun i => by
        rw [ValueIdx.eq_ix2 i]
        exact (Cert.ReferenceIdeal.Gen.ref_apply _ _ _ (i 0) (i 1)).trans
          (Cert.KernelIdeal.Gen.res_apply m _ _ _ (fun c => (h c).1) (fun c => (h c).2.1) (fun c => (h c).2.2) (i 0) (i 1)).symm), (e 0).2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
